-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v72) = v4 c
          ∧ r.2.mem ((c.tc : Thread Cert.ReferenceIdeal.nD Cert.ReferenceIdeal.τ).loc Cert.ReferenceIdeal.main_v73) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v25_0)) (v1 : (c : Dev Cert.Kernel4Ideal.nD) → Buf (Elt Ideal) ((c.tc : Thread Cert.Kernel4Ideal.nD Cert.Kernel4Ideal.τ).loc Cert.Kernel4Ideal.main_v25_1)) (v2 : (c : Dev Cert.Kernel4Ideal.nD) → Buf (Elt Ideal) ((c.tc : Thread Cert.Kernel4Ideal.nD Cert.Kernel4Ideal.τ).loc Cert.Kernel4Ideal.main_v25_2)) (v3 : (c : Dev Cert.Kernel4Ideal.nD) → Buf (Elt Ideal) ((c.tc : Thread Cert.Kernel4Ideal.nD Cert.Kernel4Ideal.τ).loc Cert.Kernel4Ideal.main_v25_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v25_0) = v0 c
          ∧ r.2.mem ((c.tc : Thread Cert.Kernel4Ideal.nD Cert.Kernel4Ideal.τ).loc Cert.Kernel4Ideal.main_v25_1) = v1 c
          ∧ r.2.mem ((c.tc : Thread Cert.Kernel4Ideal.nD Cert.Kernel4Ideal.τ).loc Cert.Kernel4Ideal.main_v25_2) = v2 c
          ∧ r.2.mem ((c.tc : Thread Cert.Kernel4Ideal.nD Cert.Kernel4Ideal.τ).loc Cert.Kernel4Ideal.main_v25_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v88) = v0 c
          ∧ r.2.mem ((c.tc : Thread Cert.Reference4Ideal.nD Cert.Reference4Ideal.τ).loc Cert.Reference4Ideal.main_v90) = v1 c
          ∧ r.2.mem ((c.tc : Thread Cert.Reference4Ideal.nD Cert.Reference4Ideal.τ).loc Cert.Reference4Ideal.main_v93) = v2 c
          ∧ r.2.mem ((c.tc : Thread Cert.Reference4Ideal.nD Cert.Reference4Ideal.τ).loc Cert.Reference4Ideal.main_v95) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16 : Shape := ⟨1, ![16]⟩
abbrev S1024x32768 : Shape := ⟨2, ![1024, 32768]⟩
abbrev S32768x128 : Shape := ⟨2, ![32768, 128]⟩
abbrev S128x32768 : Shape := ⟨2, ![128, 32768]⟩
abbrev S1024x1024 : Shape := ⟨2, ![1024, 1024]⟩
abbrev S2048x2048 : Shape := ⟨2, ![2048, 2048]⟩
abbrev S2048x5632 : Shape := ⟨2, ![2048, 5632]⟩
abbrev S5632x2048 : Shape := ⟨2, ![5632, 2048]⟩
abbrev S_ : Shape := ⟨0, ![]⟩

class Facts : Prop where
  bcast_S_S16 : S_.BroadcastsInDim S16 (![] : Fin 0 → Fin S16.rank)
  bitsLt_bf16_f32 : FTy.bits .bf16 < FTy.bits .f32
  bcast_S_S1024x32768 : S_.BroadcastsInDim S1024x32768 (![] : Fin 0 → Fin S1024x32768.rank)
  bcast_S_S32768x128 : S_.BroadcastsInDim S32768x128 (![] : Fin 0 → Fin S32768x128.rank)

variable [Facts]

def fn {F : FTy → Type} [FloatOps F] (main_arg0 : FVec F S16 .f32) (main_arg1 : FVec F S1024x32768 .bf16) (main_arg2 : FVec F S32768x128 .bf16) (main_arg3 : FVec F S128x32768 .bf16) (main_arg4 : FVec F S1024x1024 .f32) (main_arg5 : FVec F S2048x2048 .f32) (main_arg6 : FVec F S2048x5632 .f32) (main_arg7 : FVec F S2048x5632 .f32) (main_arg8 : FVec F S5632x2048 .f32) : IVec S16 1 × IVec S1024x32768 1 × IVec S32768x128 1 :=
  let main_v0 : FVec F S16 .f32 := Host.absf main_arg0
  let main_cst : FVec F S_ .f32 := constant S_ .f32 0x7F800000#32
  let main_v1 : FVec F S16 .f32 := broadcastInDim S16 ![] bcast_S_S16 main_cst
  let main_v2 : IVec S16 1 := cmpf .olt main_v0 main_v1
  let main_v3 : FVec F S1024x32768 .f32 := (extf .f32 · bitsLt_bf16_f32) main_arg1
  let main_v4 : FVec F S1024x32768 .f32 := Host.absf main_v3
  let main_cst_0 : FVec F S_ .f32 := constant S_ .f32 0x7F800000#32
  let main_v5 : FVec F S1024x32768 .f32 := broadcastInDim S1024x32768 ![] bcast_S_S1024x32768 main_cst_0
  let main_v6 : IVec S1024x32768 1 := cmpf .olt main_v4 main_v5
  let main_v7 : FVec F S32768x128 .f32 := (extf .f32 · bitsLt_bf16_f32) main_arg2
  let main_v8 : FVec F S32768x128 .f32 := Host.absf main_v7
  let main_cst_1 : FVec F S_ .f32 := constant S_ .f32 0x7F800000#32
  let main_v9 : FVec F S32768x128 .f32 := broadcastInDim S32768x128 ![] bcast_S_S32768x128 main_cst_1
  let main_v10 : IVec S32768x128 1 := cmpf .olt main_v8 main_v9
  (main_v2, main_v6, main_v10)
-- ==== Kernel.lean ====
abbrev S16 : Shape := ⟨1, ![16]⟩
abbrev S1024x32768 : Shape := ⟨2, ![1024, 32768]⟩
abbrev S32768x128 : Shape := ⟨2, ![32768, 128]⟩
abbrev S128x32768 : Shape := ⟨2, ![128, 32768]⟩
abbrev S1024x1024 : Shape := ⟨2, ![1024, 1024]⟩
abbrev S2048x2048 : Shape := ⟨2, ![2048, 2048]⟩
abbrev S2048x5632 : Shape := ⟨2, ![2048, 5632]⟩
abbrev S5632x2048 : Shape := ⟨2, ![5632, 2048]⟩
abbrev S32768x1024 : Shape := ⟨2, ![32768, 1024]⟩
abbrev S1024x2048 : Shape := ⟨2, ![1024, 2048]⟩
abbrev S2048x128 : Shape := ⟨2, ![2048, 128]⟩
abbrev S128x128 : Shape := ⟨2, ![128, 128]⟩
abbrev S128x2048 : Shape := ⟨2, ![128, 2048]⟩
abbrev S64x1024 : Shape := ⟨2, ![64, 1024]⟩
abbrev S128x5632 : Shape := ⟨2, ![128, 5632]⟩
abbrev S352x2048 : Shape := ⟨2, ![352, 2048]⟩
abbrev S2048x1024 : Shape := ⟨2, ![2048, 1024]⟩
abbrev S2176x128 : Shape := ⟨2, ![2176, 128]⟩
abbrev S128x2176 : Shape := ⟨2, ![128, 2176]⟩
abbrev S64x256 : Shape := ⟨2, ![64, 256]⟩
abbrev S256x128 : Shape := ⟨2, ![256, 128]⟩
abbrev S64x128 : Shape := ⟨2, ![64, 128]⟩
abbrev S128x256 : Shape := ⟨2, ![128, 256]⟩
abbrev S256x256 : Shape := ⟨2, ![256, 256]⟩
abbrev S128 : Shape := ⟨1, ![128]⟩
abbrev S1x128 : Shape := ⟨2, ![1, 128]⟩
abbrev S1 : Shape := ⟨1, ![1]⟩

abbrev nBuf : Space → Nat
  | .hbm => 15
  | .vmem => 34
  | .smem => 1
  | _ => 0

abbrev bufTy : (tb : Table) → Fin (tcTables nBuf tb) → BufTy
  | .hbm, ⟨0, _⟩ => ⟨S16, .f32⟩
  | .hbm, ⟨1, _⟩ => ⟨S1024x32768, .bf16⟩
  | .hbm, ⟨2, _⟩ => ⟨S32768x128, .bf16⟩
  | .hbm, ⟨3, _⟩ => ⟨S128x32768, .bf16⟩
  | .hbm, ⟨4, _⟩ => ⟨S1024x1024, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S32768x1024, .bf16⟩
  | .hbm, ⟨10, _⟩ => ⟨S1024x1024, .bf16⟩
  | .hbm, ⟨11, _⟩ => ⟨S2048x2048, .bf16⟩
  | .hbm, ⟨12, _⟩ => ⟨S2048x5632, .bf16⟩
  | .hbm, ⟨13, _⟩ => ⟨S2048x5632, .bf16⟩
  | .hbm, ⟨14, _⟩ => ⟨S5632x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S2048x128, .bf16⟩
  | .local _ .vmem, ⟨4, _⟩ => ⟨S128x128, .bf16⟩
  | .local _ .vmem, ⟨5, _⟩ => ⟨S128x128, .bf16⟩
  | .local _ .vmem, ⟨6, _⟩ => ⟨S128x2048, .bf16⟩
  | .local _ .vmem, ⟨7, _⟩ => ⟨S128x2048, .bf16⟩
  | .local _ .vmem, ⟨8, _⟩ => ⟨S128x128, .bf16⟩
  | .local _ .vmem, ⟨9, _⟩ => ⟨S128x128, .bf16⟩
  | .local _ .vmem, ⟨10, _⟩ => ⟨S64x1024, .f32⟩
  | .local _ .vmem, ⟨11, _⟩ => ⟨S64x1024, .f32⟩
  | .local _ .vmem, ⟨12, _⟩ => ⟨S128x2048, .f32⟩
  | .local _ .vmem, ⟨13, _⟩ => ⟨S128x2048, .f32⟩
  | .local _ .vmem, ⟨14, _⟩ => ⟨S128x5632, .f32⟩
  | .local _ .vmem, ⟨15, _⟩ => ⟨S128x5632, .f32⟩
  | .local _ .vmem, ⟨16, _⟩ => ⟨S128x5632, .f32⟩
  | .local _ .vmem, ⟨17, _⟩ => ⟨S128x5632, .f32⟩
  | .local _ .vmem, ⟨18, _⟩ => ⟨S352x2048, .f32⟩
  | .local _ .vmem, ⟨19, _⟩ => ⟨S352x2048, .f32⟩
  | .local _ .vmem, ⟨20, _⟩ => ⟨S2048x1024, .bf16⟩
  | .local _ .vmem, ⟨21, _⟩ => ⟨S2048x1024, .bf16⟩
  | .local _ .vmem, ⟨22, _⟩ => ⟨S64x1024, .bf16⟩
  | .local _ .vmem, ⟨23, _⟩ => ⟨S64x1024, .bf16⟩
  | .local _ .vmem, ⟨24, _⟩ => ⟨S128x2048, .bf16⟩
  | .local _ .vmem, ⟨25, _⟩ => ⟨S128x2048, .bf16⟩
  | .local _ .vmem, ⟨26, _⟩ => ⟨S128x5632, .bf16⟩
  | .local _ .vmem, ⟨27, _⟩ => ⟨S128x5632, .bf16⟩
  | .local _ .vmem, ⟨28, _⟩ => ⟨S128x5632, .bf16⟩
  | .local _ .vmem, ⟨29, _⟩ => ⟨S128x5632, .bf16⟩
  | .local _ .vmem, ⟨30, _⟩ => ⟨S352x2048, .bf16⟩
  | .local _ .vmem, ⟨31, _⟩ => ⟨S352x2048, .bf16⟩
  | .local _ .vmem, ⟨32, _⟩ => ⟨S2176x128, .bf16⟩
  | .local _ .vmem, ⟨33, _⟩ => ⟨S128x2176, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![16, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.muli arg1 c16_i32_0
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.muli arg1 c16_i32_0
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_1 : BitVec 32 := 0#32
  let c0_i32_2 : BitVec 32 := 0#32
  ![c0_i32_1.toNat, v4.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S352x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S352x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S16 : Shape := ⟨1, ![16]⟩
abbrev S1024x32768 : Shape := ⟨2, ![1024, 32768]⟩
abbrev S32768x128 : Shape := ⟨2, ![32768, 128]⟩
abbrev S128x32768 : Shape := ⟨2, ![128, 32768]⟩
abbrev S1024x1024 : Shape := ⟨2, ![1024, 1024]⟩
abbrev S2048x2048 : Shape := ⟨2, ![2048, 2048]⟩
abbrev S2048x5632 : Shape := ⟨2, ![2048, 5632]⟩
abbrev S5632x2048 : Shape := ⟨2, ![5632, 2048]⟩
abbrev S32768x1024 : Shape := ⟨2, ![32768, 1024]⟩
abbrev S16x16x128x2x8x64 : Shape := ⟨6, ![16, 16, 128, 2, 8, 64]⟩
abbrev S16x16x128x2x64 : Shape := ⟨5, ![16, 16, 128, 2, 64]⟩
abbrev S_ : Shape := ⟨0, ![]⟩
abbrev S16x17x128x2x64 : Shape := ⟨5, ![16, 17, 128, 2, 64]⟩
abbrev S16x16x256x2x64 : Shape := ⟨5, ![16, 16, 256, 2, 64]⟩
abbrev S16x16x2x256x128x8 : Shape := ⟨6, ![16, 16, 2, 256, 128, 8]⟩
abbrev S16x16x2x8x128x256 : Shape := ⟨6, ![16, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S16x16x2x8x128 : Shape := ⟨5, ![16, 16, 2, 8, 128]⟩
abbrev S16x16x2x8x128x1 : Shape := ⟨6, ![16, 16, 2, 8, 128, 1]⟩
abbrev S16x16x2x64x8x128 : Shape := ⟨6, ![16, 16, 2, 64, 8, 128]⟩

abbrev nBuf : Space → Nat
  | .hbm => 99
  | .vmem => 0
  | .smem => 0
  | _ => 0

abbrev bufTy : (tb : Table) → Fin (tcTables nBuf tb) → BufTy
  | .hbm, ⟨0, _⟩ => ⟨S16, .f32⟩
  | .hbm, ⟨1, _⟩ => ⟨S1024x32768, .bf16⟩
  | .hbm, ⟨2, _⟩ => ⟨S32768x128, .bf16⟩
  | .hbm, ⟨3, _⟩ => ⟨S128x32768, .bf16⟩
  | .hbm, ⟨4, _⟩ => ⟨S1024x1024, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S1024x32768, .f32⟩
  | .hbm, ⟨10, _⟩ => ⟨S32768x1024, .f32⟩
  | .hbm, ⟨11, _⟩ => ⟨S16x16x128x2x8x64, .f32⟩
  | .hbm, ⟨12, _⟩ => ⟨S32768x128, .f32⟩
  | .hbm, ⟨13, _⟩ => ⟨S16x16x128x2x64, .f32⟩
  | .hbm, ⟨14, _⟩ => ⟨S128x32768, .f32⟩
  | .hbm, ⟨15, _⟩ => ⟨S32768x128, .f32⟩
  | .hbm, ⟨16, _⟩ => ⟨S16x16x128x2x64, .f32⟩
  | .hbm, ⟨17, _⟩ => ⟨S_, .i32⟩
  | .hbm, ⟨18, _⟩ => ⟨S_, .f32⟩
  | .hbm, ⟨19, _⟩ => ⟨S16x17x128x2x64, .f32⟩
  | .hbm, ⟨20, _⟩ => ⟨S16x16x128x2x64, .f32⟩
  | .hbm, ⟨21, _⟩ => ⟨S16x16x256x2x64, .f32⟩
  | .hbm, ⟨22, _⟩ => ⟨S_, .i32⟩
  | .hbm, ⟨23, _⟩ => ⟨S_, .f32⟩
  | .hbm, ⟨24, _⟩ => ⟨S16x17x128x2x64, .f32⟩
  | .hbm, ⟨25, _⟩ => ⟨S16x16x128x2x64, .f32⟩
  | .hbm, ⟨26, _⟩ => ⟨S16x16x256x2x64, .f32⟩
  | .hbm, ⟨27, _⟩ => ⟨S16x16x2x256x128x8, .f32⟩
  | .hbm, ⟨28, _⟩ => ⟨S16x16x2x8x128x256, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S128x1, .i32⟩
  | .hbm, ⟨35, _⟩ => ⟨S128x1, .i32⟩
  | .hbm, ⟨36, _⟩ => ⟨S128x256, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S128x256, .i1⟩
  | .hbm, ⟨46, _⟩ => ⟨S16, .i32⟩
  | .hbm, ⟨47, _⟩ => ⟨S16x1x1, .i32⟩
  | .hbm, ⟨48, _⟩ => ⟨S_, .i32⟩
  | .hbm, ⟨49, _⟩ => ⟨S16x1x1, .i32⟩
  | .hbm, ⟨50, _⟩ => ⟨S16x1x1, .i32⟩
  | .hbm, ⟨51, _⟩ => ⟨S_, .i32⟩
  | .hbm, ⟨52, _⟩ => ⟨S16x1x1, .i32⟩
  | .hbm, ⟨53, _⟩ => ⟨S16x1x1, .i32⟩
  | .hbm, ⟨54, _⟩ => ⟨S1x1x256, .i32⟩
  | .hbm, ⟨55, _⟩ => ⟨S16x1x256, .i32⟩
  | .hbm, ⟨56, _⟩ => ⟨S16x1x256, .i32⟩
  | .hbm, ⟨57, _⟩ => ⟨S16x1x256, .i32⟩
  | .hbm, ⟨58, _⟩ => ⟨S1x128x256, .i1⟩
  | .hbm, ⟨59, _⟩ => ⟨S_, .i32⟩
  | .hbm, ⟨60, _⟩ => ⟨S16x1x256, .i32⟩
  | .hbm, ⟨61, _⟩ => ⟨S16x1x256, .i1⟩
  | .hbm, ⟨62, _⟩ => ⟨S16x128x256, .i1⟩
  | .hbm, ⟨63, _⟩ => ⟨S16x128x256, .i1⟩
  | .hbm, ⟨64, _⟩ => ⟨S16x128x256, .i1⟩
  | .hbm, ⟨65, _⟩ => ⟨S1x16x1x1x128x256, .i1⟩
  | .hbm, ⟨66, _⟩ => ⟨S_, .f32⟩
  | .hbm, ⟨67, _⟩ => ⟨S_, .f32⟩
  | .hbm, ⟨68, _⟩ => ⟨S16x16x2x8x128x256, .i1⟩
  | .hbm, ⟨69, _⟩ => ⟨S16x16x2x8x128x256, .f32⟩
  | .hbm, ⟨70, _⟩ => ⟨S16x16x2x8x128x256, .f32⟩
  | .hbm, ⟨71, _⟩ => ⟨S2x8, .f32⟩
  | .hbm, ⟨72, _⟩ => ⟨S1x1x2x8x1x1, .f32⟩
  | .hbm, ⟨73, _⟩ => ⟨S_, .f32⟩
  | .hbm, ⟨74, _⟩ => ⟨S16x16x2x8x128, .f32⟩
  | .hbm, ⟨75, _⟩ => ⟨S16x16x2x8x128x1, .f32⟩
  | .hbm, ⟨76, _⟩ => ⟨S16x16x2x8x128x1, .f32⟩
  | .hbm, ⟨77, _⟩ => ⟨S16x16x2x8x128x1, .f32⟩
  | .hbm, ⟨78, _⟩ => ⟨S16x16x2x8x128x256, .f32⟩
  | .hbm, ⟨79, _⟩ => ⟨S16x16x2x8x128x256, .f32⟩
  | .hbm, ⟨80, _⟩ => ⟨S16x16x2x8x128x256, .f32⟩
  | .hbm, ⟨81, _⟩ => ⟨S_, .f32⟩
  | .hbm, ⟨82, _⟩ => ⟨S16x16x2x8x128, .f32⟩
  | .hbm, ⟨83, _⟩ => ⟨S16x16x2x8x128x1, .f32⟩
  | .hbm, ⟨84, _⟩ => ⟨S16x16x2x8x128x1, .f32⟩
  | .hbm, ⟨85, _⟩ => ⟨S16x16x2x8x128x1, .f32⟩
  | .hbm, ⟨86, _⟩ => ⟨S16x16x2x8x128x1, .f32⟩
  | .hbm, ⟨87, _⟩ => ⟨S16x16x2x8x128x1, .f32⟩
  | .hbm, ⟨88, _⟩ => ⟨S16x16x2x8x128x256, .f32⟩
  | .hbm, ⟨89, _⟩ => ⟨S16x16x2x8x128x256, .f32⟩
  | .hbm, ⟨90, _⟩ => ⟨S16x16x2x64x8x128, .f32⟩
  | .hbm, ⟨91, _⟩ => ⟨S16x16x128x2x8x64, .f32⟩
  | .hbm, ⟨92, _⟩ => ⟨S32768x1024, .f32⟩
  | .hbm, ⟨93, _⟩ => ⟨S32768x1024, .bf16⟩
  | .hbm, ⟨94, _⟩ => ⟨S1024x1024, .bf16⟩
  | .hbm, ⟨95, _⟩ => ⟨S2048x2048, .bf16⟩
  | .hbm, ⟨96, _⟩ => ⟨S2048x5632, .bf16⟩
  | .hbm, ⟨97, _⟩ => ⟨S2048x5632, .bf16⟩
  | .hbm, ⟨98, _⟩ => ⟨S5632x2048, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Kernel2.lean ====
abbrev S32768x2048 : Shape := ⟨2, ![32768, 2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2x2048x512 : Shape := ⟨3, ![2, 2048, 512]⟩
abbrev S2x512x2048 : Shape := ⟨3, ![2, 512, 2048]⟩
abbrev S3x2 : Shape := ⟨2, ![3, 2]⟩
abbrev S1x1 : Shape := ⟨2, ![1, 1]⟩
abbrev S_ : Shape := ⟨0, ![]⟩
abbrev S1x2048x512 : Shape := ⟨3, ![1, 2048, 512]⟩
abbrev S2048x512 : Shape := ⟨2, ![2048, 512]⟩
abbrev S1x512x2048 : Shape := ⟨3, ![1, 512, 2048]⟩
abbrev S512x2048 : Shape := ⟨2, ![512, 2048]⟩
abbrev S1x2048x256 : Shape := ⟨3, ![1, 2048, 256]⟩
abbrev S2048x256 : Shape := ⟨2, ![2048, 256]⟩
abbrev S1024x256 : Shape := ⟨2, ![1024, 256]⟩
abbrev S1x256x2048 : Shape := ⟨3, ![1, 256, 2048]⟩
abbrev S256x2048 : Shape := ⟨2, ![256, 2048]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S1x2048, .f32⟩
  | .hbm, ⟨5, _⟩ => ⟨S1x2048, .f32⟩
  | .hbm, ⟨6, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S2x2048x512, .bf16⟩
  | .local _ .vmem, ⟨7, _⟩ => ⟨S2x2048x512, .bf16⟩
  | .local _ .vmem, ⟨8, _⟩ => ⟨S2x512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_19 : BitVec 32 := 0#32
  c0_i32_19
@[reducible] def k0_t1_loop : Scf.Loop 32 :=
  let c0_i32_4 : BitVec 32 := 0#32
  let c11_i32 : BitVec 32 := 11#32
  let v7 : BitVec 32 := Scalar.addi c0_i32_4 c11_i32
  let c1_i32 : BitVec 32 := 1#32
  ⟨c0_i32_4, v7, c1_i32⟩
def k0_mult2 (k0_t1 : Fin k0_t1_loop.trips) : BitVec 32 :=
  let c0_i32_4 : BitVec 32 := 0#32
  let c1_i32 : BitVec 32 := 1#32
  let arg12 : BitVec 32 := Scf.iv c0_i32_4 c1_i32 k0_t1
  let c512_i32 : BitVec 32 := 512#32
  let v45 : BitVec 32 := Scalar.muli arg12 c512_i32
  v45
def k0_off1 (i : grid0.Coords) (k0_t1 : Fin k0_t1_loop.trips) : Fin 2 → Nat :=
  let c0_i32_25 : BitVec 32 := 0#32
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  ![0, v44.toNat]
def k0_off2 (i : grid0.Coords) (k0_t1 : Fin k0_t1_loop.trips) : Fin 3 → Nat :=
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c0_i32_26 : BitVec 32 := 0#32
  let c0_i32_27 : BitVec 32 := 0#32
  ![v44.toNat, 0, 0]
def k0_off3 (k0_t1 : Fin k0_t1_loop.trips) : Fin 2 → Nat :=
  let c0_i32_28 : BitVec 32 := 0#32
  let c0_i32_4 : BitVec 32 := 0#32
  let c1_i32 : BitVec 32 := 1#32
  let arg12 : BitVec 32 := Scf.iv c0_i32_4 c1_i32 k0_t1
  let c512_i32 : BitVec 32 := 512#32
  let v45 : BitVec 32 := Scalar.muli arg12 c512_i32
  let v46 : BitVec 32 := v45
  ![0, v46.toNat]
def k0_off4 (i : grid0.Coords) (k0_t1 : Fin k0_t1_loop.trips) : Fin 2 → Nat :=
  let c1_i32_29 : BitVec 32 := 1#32
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  ![1, v44.toNat]
def k0_off5 (i : grid0.Coords) (k0_t1 : Fin k0_t1_loop.trips) : Fin 2 → Nat :=
  let c2_i32_33 : BitVec 32 := 2#32
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  ![2, v44.toNat]
def k0_off6 (i : grid0.Coords) (k0_t1 : Fin k0_t1_loop.trips) : Fin 3 → Nat :=
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let c0_i32_34 : BitVec 32 := 0#32
  let c0_i32_35 : BitVec 32 := 0#32
  ![v44.toNat, 0, 0]
def k0_off7 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c512_i32 : BitVec 32 := 512#32
  let v45 : BitVec 32 := Scalar.muli arg12 c512_i32
  let v46 : BitVec 32 := v45
  let c0_i32_36 : BitVec 32 := 0#32
  ![v46.toNat, 0]
def k0_cond2 (i : grid0.Coords) (k0_t1 : Fin k0_t1_loop.trips) : BitVec 1 :=
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c1_i32_37 : BitVec 32 := 1#32
  let v62 : BitVec 32 := Scalar.addi v34 c1_i32_37
  let c352_i32 : BitVec 32 := 352#32
  let v63 : BitVec 1 := Scalar.cmpi .slt v62 c352_i32
  let v64 : BitVec 32 := Scalar.extui v63
  let c0_i32_38 : BitVec 32 := 0#32
  let v65 : BitVec 1 := Scalar.cmpi .ne v64 c0_i32_38
  v65

def k0_mult3 (k0_t1 : Fin k0_t1_loop.trips) : BitVec 32 :=
  let c0_i32_4 : BitVec 32 := 0#32
  let c1_i32 : BitVec 32 := 1#32
  let arg12 : BitVec 32 := Scf.iv c0_i32_4 c1_i32 k0_t1
  let c1_i32_66 : BitVec 32 := 1#32
  let v108 : BitVec 32 := Scalar.addi arg12 c1_i32_66
  let c11_i32_67 : BitVec 32 := 11#32
  let c0_i32_68 : BitVec 32 := 0#32
  let v109 : BitVec 1 := Scalar.cmpi .eq c11_i32_67 c0_i32_68
  let c1_i32_69 : BitVec 32 := 1#32
  let v110 : BitVec 32 := Scalar.select v109 c1_i32_69 c11_i32_67
  let v111 : BitVec 32 := Scalar.remsi v108 v110
  let c0_i32_71 : BitVec 32 := 0#32
  let v113 : BitVec 1 := Scalar.cmpi .slt v111 c0_i32_71
  let c0_i32_72 : BitVec 32 := 0#32
  let v114 : BitVec 1 := Scalar.cmpi .slt v110 c0_i32_72
  let v115 : BitVec 1 := Scalar.xori v113 v114
  let c0_i32_70 : BitVec 32 := 0#32
  let v112 : BitVec 1 := Scalar.cmpi .ne v111 c0_i32_70
  let v116 : BitVec 1 := Scalar.andi v115 v112
  let v117 : BitVec 32 := Scalar.addi v111 v110
  let v118 : BitVec 32 := Scalar.select v116 v117 v111
  let c512_i32_74 : BitVec 32 := 512#32
  let v120 : BitVec 32 := Scalar.muli v118 c512_i32_74
  v120
def k0_off8 (i : grid0.Coords) (k0_t1 : Fin k0_t1_loop.trips) : Fin 2 → Nat :=
  let c0_i32_75 : BitVec 32 := 0#32
  let c1_i32_73 : BitVec 32 := 1#32
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v119 : BitVec 32 := Scalar.subi c1_i32_73 v44
  ![0, v119.toNat]
def k0_off9 (i : grid0.Coords) (k0_t1 : Fin k0_t1_loop.trips) : Fin 3 → Nat :=
  let c1_i32_73 : BitVec 32 := 1#32
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v119 : BitVec 32 := Scalar.subi c1_i32_73 v44
  let c0_i32_76 : BitVec 32 := 0#32
  let c0_i32_77 : BitVec 32 := 0#32
  ![v119.toNat, 0, 0]
def k0_off10 (k0_t1 : Fin k0_t1_loop.trips) : Fin 2 → Nat :=
  let c0_i32_78 : BitVec 32 := 0#32
  let c0_i32_4 : BitVec 32 := 0#32
  let c1_i32 : BitVec 32 := 1#32
  let arg12 : BitVec 32 := Scf.iv c0_i32_4 c1_i32 k0_t1
  let c1_i32_66 : BitVec 32 := 1#32
  let v108 : BitVec 32 := Scalar.addi arg12 c1_i32_66
  let c11_i32_67 : BitVec 32 := 11#32
  let c0_i32_68 : BitVec 32 := 0#32
  let v109 : BitVec 1 := Scalar.cmpi .eq c11_i32_67 c0_i32_68
  let c1_i32_69 : BitVec 32 := 1#32
  let v110 : BitVec 32 := Scalar.select v109 c1_i32_69 c11_i32_67
  let v111 : BitVec 32 := Scalar.remsi v108 v110
  let c0_i32_71 : BitVec 32 := 0#32
  let v113 : BitVec 1 := Scalar.cmpi .slt v111 c0_i32_71
  let c0_i32_72 : BitVec 32 := 0#32
  let v114 : BitVec 1 := Scalar.cmpi .slt v110 c0_i32_72
  let v115 : BitVec 1 := Scalar.xori v113 v114
  let c0_i32_70 : BitVec 32 := 0#32
  let v112 : BitVec 1 := Scalar.cmpi .ne v111 c0_i32_70
  let v116 : BitVec 1 := Scalar.andi v115 v112
  let v117 : BitVec 32 := Scalar.addi v111 v110
  let v118 : BitVec 32 := Scalar.select v116 v117 v111
  let c512_i32_74 : BitVec 32 := 512#32
  let v120 : BitVec 32 := Scalar.muli v118 c512_i32_74
  let v121 : BitVec 32 := v120
  ![0, v121.toNat]
def k0_off11 (i : grid0.Coords) (k0_t1 : Fin k0_t1_loop.trips) : Fin 2 → Nat :=
  let c1_i32_79 : BitVec 32 := 1#32
  let c1_i32_73 : BitVec 32 := 1#32
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v119 : BitVec 32 := Scalar.subi c1_i32_73 v44
  ![1, v119.toNat]
def k0_off12 (i : grid0.Coords) (k0_t1 : Fin k0_t1_loop.trips) : Fin 2 → Nat :=
  let c2_i32_83 : BitVec 32 := 2#32
  let c1_i32_73 : BitVec 32 := 1#32
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v119 : BitVec 32 := Scalar.subi c1_i32_73 v44
  ![2, v119.toNat]
def k0_off13 (i : grid0.Coords) (k0_t1 : Fin k0_t1_loop.trips) : Fin 3 → Nat :=
  let c1_i32_73 : BitVec 32 := 1#32
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v119 : BitVec 32 := Scalar.subi c1_i32_73 v44
  let c0_i32_84 : BitVec 32 := 0#32
  let c0_i32_85 : BitVec 32 := 0#32
  ![v119.toNat, 0, 0]
def k0_off14 (k0_t1 : Fin k0_t1_loop.trips) : Fin 2 → Nat :=
  let c0_i32_4 : BitVec 32 := 0#32
  let c1_i32 : BitVec 32 := 1#32
  let arg12 : BitVec 32 := Scf.iv c0_i32_4 c1_i32 k0_t1
  let c1_i32_66 : BitVec 32 := 1#32
  let v108 : BitVec 32 := Scalar.addi arg12 c1_i32_66
  let c11_i32_67 : BitVec 32 := 11#32
  let c0_i32_68 : BitVec 32 := 0#32
  let v109 : BitVec 1 := Scalar.cmpi .eq c11_i32_67 c0_i32_68
  let c1_i32_69 : BitVec 32 := 1#32
  let v110 : BitVec 32 := Scalar.select v109 c1_i32_69 c11_i32_67
  let v111 : BitVec 32 := Scalar.remsi v108 v110
  let c0_i32_71 : BitVec 32 := 0#32
  let v113 : BitVec 1 := Scalar.cmpi .slt v111 c0_i32_71
  let c0_i32_72 : BitVec 32 := 0#32
  let v114 : BitVec 1 := Scalar.cmpi .slt v110 c0_i32_72
  let v115 : BitVec 1 := Scalar.xori v113 v114
  let c0_i32_70 : BitVec 32 := 0#32
  let v112 : BitVec 1 := Scalar.cmpi .ne v111 c0_i32_70
  let v116 : BitVec 1 := Scalar.andi v115 v112
  let v117 : BitVec 32 := Scalar.addi v111 v110
  let v118 : BitVec 32 := Scalar.select v116 v117 v111
  let c512_i32_74 : BitVec 32 := 512#32
  let v120 : BitVec 32 := Scalar.muli v118 c512_i32_74
  let v121 : BitVec 32 := v120
  let c0_i32_86 : BitVec 32 := 0#32
  ![v121.toNat, 0]
def k0_off15 (i : grid0.Coords) (k0_t1 : Fin k0_t1_loop.trips) : Fin 3 → Nat :=
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v68 : Index := Scalar.indexCast v44
  let c0_41 : Index := 0#32
  let c0_42 : Index := 0#32
  ![v68.toNat, 0, 0]
def k0_off16 (i : grid0.Coords) (k0_t1 : Fin k0_t1_loop.trips) : Fin 3 → Nat :=
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v80 : Index := Scalar.indexCast v44
  let c0_47 : Index := 0#32
  let c256 : Index := 256#32
  ![v80.toNat, 0, 256]
def k0_off17 (i : grid0.Coords) (k0_t1 : Fin k0_t1_loop.trips) : Fin 3 → Nat :=
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v94 : Index := Scalar.indexCast v44
  let c0_54 : Index := 0#32
  let c0_55 : Index := 0#32
  ![v94.toNat, 0, 0]
def k0_off18 (i : grid0.Coords) (k0_t1 : Fin k0_t1_loop.trips) : Fin 3 → Nat :=
  let arg0 : BitVec 32 := BitVec.ofNat 32 (i 0).val
  let c11_i32_19 : BitVec 32 := 11#32
  let v33 : BitVec 32 := Scalar.muli arg0 c11_i32_19
  let c0_i32_4 : BitVec 32 := 0#32
  let c1_i32 : BitVec 32 := 1#32
  let arg12 : BitVec 32 := Scf.iv c0_i32_4 c1_i32 k0_t1
  let v34 : BitVec 32 := Scalar.addi v33 arg12
  let c2_i32 : BitVec 32 := 2#32
  let c0_i32_20 : BitVec 32 := 0#32
  let v35 : BitVec 1 := Scalar.cmpi .eq c2_i32 c0_i32_20
  let c1_i32_21 : BitVec 32 := 1#32
  let v36 : BitVec 32 := Scalar.select v35 c1_i32_21 c2_i32
  let v37 : BitVec 32 := Scalar.remsi v34 v36
  let c0_i32_23 : BitVec 32 := 0#32
  let v39 : BitVec 1 := Scalar.cmpi .slt v37 c0_i32_23
  let c0_i32_24 : BitVec 32 := 0#32
  let v40 : BitVec 1 := Scalar.cmpi .slt v36 c0_i32_24
  let v41 : BitVec 1 := Scalar.xori v39 v40
  let c0_i32_22 : BitVec 32 := 0#32
  let v38 : BitVec 1 := Scalar.cmpi .ne v37 c0_i32_22
  let v42 : BitVec 1 := Scalar.andi v41 v38
  let v43 : BitVec 32 := Scalar.addi v37 v36
  let v44 : BitVec 32 := Scalar.select v42 v43 v37
  let v102 : Index := Scalar.indexCast v44
  let c256_61 : Index := 256#32
  let c0_62 : Index := 0#32
  ![v102.toNat, 256, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32768x2048 : Shape := ⟨2, ![32768, 2048]⟩
abbrev S2048x5632 : Shape := ⟨2, ![2048, 5632]⟩
abbrev S5632x2048 : Shape := ⟨2, ![5632, 2048]⟩
abbrev S1x2048 : Shape := ⟨2, ![1, 2048]⟩
abbrev S32768x5632 : Shape := ⟨2, ![32768, 5632]⟩
abbrev S_ : Shape := ⟨0, ![]⟩
abbrev S2048 : Shape := ⟨1, ![2048]⟩
abbrev S32768 : Shape := ⟨1, ![32768]⟩
abbrev S32768x1 : Shape := ⟨2, ![32768, 1]⟩

abbrev nBuf : Space → Nat
  | .hbm => 57
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S32768x5632, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S_, .f32⟩
  | .hbm, ⟨16, _⟩ => ⟨S32768x5632, .f32⟩
  | .hbm, ⟨17, _⟩ => ⟨S32768x5632, .f32⟩
  | .hbm, ⟨18, _⟩ => ⟨S32768x5632, .f32⟩
  | .hbm, ⟨19, _⟩ => ⟨S32768x5632, .f32⟩
  | .hbm, ⟨20, _⟩ => ⟨S32768x5632, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x2048, .f32⟩
  | .hbm, ⟨50, _⟩ => ⟨S32768x2048, .f32⟩
  | .hbm, ⟨51, _⟩ => ⟨S1x2048, .f32⟩
  | .hbm, ⟨52, _⟩ => ⟨S32768x2048, .f32⟩
  | .hbm, ⟨53, _⟩ => ⟨S32768x2048, .f32⟩
  | .hbm, ⟨54, _⟩ => ⟨S1x2048, .f32⟩
  | .hbm, ⟨55, _⟩ => ⟨S32768x2048, .f32⟩
  | .hbm, ⟨56, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S2048x2048 : Shape := ⟨2, ![2048, 2048]⟩
abbrev S1x2048 : Shape := ⟨2, ![1, 2048]⟩
abbrev S1024x1024 : Shape := ⟨2, ![1024, 1024]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S2048x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S32768x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .f32⟩
  | .local _ .vmem, ⟨5, _⟩ => ⟨S1024x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x1024 : Shape := ⟨2, ![32768, 1024]⟩
abbrev S32768x2048 : Shape := ⟨2, ![32768, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S32768 : Shape := ⟨1, ![32768]⟩
abbrev S32768x1 : Shape := ⟨2, ![32768, 1]⟩

abbrev nBuf : Space → Nat
  | .hbm => 51
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x2048, .f32⟩
  | .hbm, ⟨3, _⟩ => ⟨S2048x2048, .bf16⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S32768x1024, .f32⟩
  | .hbm, ⟨8, _⟩ => ⟨S32768x1024, .f32⟩
  | .hbm, ⟨9, _⟩ => ⟨S2048x2048, .f32⟩
  | .hbm, ⟨10, _⟩ => ⟨S32768x2048, .f32⟩
  | .hbm, ⟨11, _⟩ => ⟨S32768x2048, .f32⟩
  | .hbm, ⟨12, _⟩ => ⟨S2048, .f32⟩
  | .hbm, ⟨13, _⟩ => ⟨S1x2048, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x2048, .f32⟩
  | .hbm, ⟨38, _⟩ => ⟨S32768x2048, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x2048, .f32⟩
  | .hbm, ⟨44, _⟩ => ⟨S32768x2048, .f32⟩
  | .hbm, ⟨45, _⟩ => ⟨S1x2048, .f32⟩
  | .hbm, ⟨46, _⟩ => ⟨S32768x2048, .f32⟩
  | .hbm, ⟨47, _⟩ => ⟨S32768x2048, .f32⟩
  | .hbm, ⟨48, _⟩ => ⟨S1x2048, .f32⟩
  | .hbm, ⟨49, _⟩ => ⟨S32768x2048, .f32⟩
  | .hbm, ⟨50, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel4.lean ====
abbrev S16x2048x2048 : Shape := ⟨3, ![16, 2048, 2048]⟩
abbrev S16x2048 : Shape := ⟨2, ![16, 2048]⟩
abbrev S1x2048x3328 : Shape := ⟨3, ![1, 2048, 3328]⟩
abbrev S1x3328 : Shape := ⟨2, ![1, 3328]⟩
abbrev S32 : Shape := ⟨1, ![32]⟩
abbrev S_ : Shape := ⟨0, ![]⟩
abbrev S32x1 : Shape := ⟨2, ![32, 1]⟩
abbrev S1x32768 : Shape := ⟨2, ![1, 32768]⟩
abbrev S32768x2048 : Shape := ⟨2, ![32768, 2048]⟩
abbrev S2048x3328 : Shape := ⟨2, ![2048, 3328]⟩
abbrev S2048x1280 : Shape := ⟨2, ![2048, 1280]⟩
abbrev S1280x2048 : Shape := ⟨2, ![1280, 2048]⟩
abbrev S3328 : Shape := ⟨1, ![3328]⟩
abbrev S1280 : Shape := ⟨1, ![1280]⟩
abbrev S1280x1 : Shape := ⟨2, ![1280, 1]⟩
abbrev S2048x2048 : Shape := ⟨2, ![2048, 2048]⟩
abbrev S2048 : Shape := ⟨1, ![2048]⟩
abbrev S1x2048 : Shape := ⟨2, ![1, 2048]⟩
abbrev S1024x32768 : Shape := ⟨2, ![1024, 32768]⟩
abbrev S32768x128 : Shape := ⟨2, ![32768, 128]⟩
abbrev S128x32768 : Shape := ⟨2, ![128, 32768]⟩
abbrev S8x32768x128 : Shape := ⟨3, ![8, 32768, 128]⟩
abbrev S1024x2048 : Shape := ⟨2, ![1024, 2048]⟩
abbrev S1x1024 : Shape := ⟨2, ![1, 1024]⟩
abbrev S1024x1024 : Shape := ⟨2, ![1024, 1024]⟩
abbrev S1024x128 : Shape := ⟨2, ![1024, 128]⟩
abbrev S128x1024 : Shape := ⟨2, ![128, 1024]⟩
abbrev S8x1024x128 : Shape := ⟨3, ![8, 1024, 128]⟩
abbrev S32x1024 : Shape := ⟨2, ![32, 1024]⟩
abbrev S1280x1024 : Shape := ⟨2, ![1280, 1024]⟩
abbrev S64x1024 : Shape := ⟨2, ![64, 1024]⟩
abbrev S2048x512 : Shape := ⟨2, ![2048, 512]⟩
abbrev S1024x512 : Shape := ⟨2, ![1024, 512]⟩
abbrev S1x512 : Shape := ⟨2, ![1, 512]⟩
abbrev S1x1024x128 : Shape := ⟨3, ![1, 1024, 128]⟩

abbrev nBuf : Space → Nat
  | .hbm => 37
  | .vmem => 17
  | .smem => 0
  | _ => 0

abbrev bufTy : (tb : Table) → Fin (tcTables nBuf tb) → BufTy
  | .hbm, ⟨0, _⟩ => ⟨S16x2048x2048, .f32⟩
  | .hbm, ⟨1, _⟩ => ⟨S16x2048, .i32⟩
  | .hbm, ⟨2, _⟩ => ⟨S1x2048x3328, .f32⟩
  | .hbm, ⟨3, _⟩ => ⟨S1x3328, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32x1, .f32⟩
  | .hbm, ⟨18, _⟩ => ⟨S1x32768, .i32⟩
  | .hbm, ⟨19, _⟩ => ⟨S32768x2048, .f32⟩
  | .hbm, ⟨20, _⟩ => ⟨S2048x3328, .f32⟩
  | .hbm, ⟨21, _⟩ => ⟨S2048x1280, .f32⟩
  | .hbm, ⟨22, _⟩ => ⟨S1280x2048, .f32⟩
  | .hbm, ⟨23, _⟩ => ⟨S1280x2048, .bf16⟩
  | .hbm, ⟨24, _⟩ => ⟨S3328, .f32⟩
  | .hbm, ⟨25, _⟩ => ⟨S1280, .f32⟩
  | .hbm, ⟨26, _⟩ => ⟨S1280x1, .f32⟩
  | .hbm, ⟨27, _⟩ => ⟨S2048x3328, .f32⟩
  | .hbm, ⟨28, _⟩ => ⟨S2048x2048, .f32⟩
  | .hbm, ⟨29, _⟩ => ⟨S2048x2048, .bf16⟩
  | .hbm, ⟨30, _⟩ => ⟨S3328, .f32⟩
  | .hbm, ⟨31, _⟩ => ⟨S2048, .f32⟩
  | .hbm, ⟨32, _⟩ => ⟨S1x2048, .f32⟩
  | .hbm, ⟨33, _⟩ => ⟨S1024x32768, .bf16⟩
  | .hbm, ⟨34, _⟩ => ⟨S32768x128, .bf16⟩
  | .hbm, ⟨35, _⟩ => ⟨S128x32768, .bf16⟩
  | .hbm, ⟨36, _⟩ => ⟨S8x32768x128, .f32⟩
  | .local _ .vmem, ⟨0, _⟩ => ⟨S1024x2048, .f32⟩
  | .local _ .vmem, ⟨1, _⟩ => ⟨S1024x2048, .f32⟩
  | .local _ .vmem, ⟨2, _⟩ => ⟨S1x1024, .i32⟩
  | .local _ .vmem, ⟨3, _⟩ => ⟨S1x1024, .i32⟩
  | .local _ .vmem, ⟨4, _⟩ => ⟨S32x1, .f32⟩
  | .local _ .vmem, ⟨5, _⟩ => ⟨S1280x2048, .bf16⟩
  | .local _ .vmem, ⟨6, _⟩ => ⟨S1280x1, .f32⟩
  | .local _ .vmem, ⟨7, _⟩ => ⟨S2048x2048, .bf16⟩
  | .local _ .vmem, ⟨8, _⟩ => ⟨S1x2048, .f32⟩
  | .local _ .vmem, ⟨9, _⟩ => ⟨S1024x1024, .bf16⟩
  | .local _ .vmem, ⟨10, _⟩ => ⟨S1024x1024, .bf16⟩
  | .local _ .vmem, ⟨11, _⟩ => ⟨S1024x128, .bf16⟩
  | .local _ .vmem, ⟨12, _⟩ => ⟨S1024x128, .bf16⟩
  | .local _ .vmem, ⟨13, _⟩ => ⟨S128x1024, .bf16⟩
  | .local _ .vmem, ⟨14, _⟩ => ⟨S128x1024, .bf16⟩
  | .local _ .vmem, ⟨15, _⟩ => ⟨S8x1024x128, .f32⟩
  | .local _ .vmem, ⟨16, _⟩ => ⟨S8x1024x128, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25_0 : Ref sig .tc := ⟨.hbm, 33, rfl⟩
abbrev main_v25_1 : Ref sig .tc := ⟨.hbm, 34, rfl⟩
abbrev main_v25_2 : Ref sig .tc := ⟨.hbm, 35, rfl⟩
abbrev main_v25_3 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1280x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16x2048x2048 : Shape := ⟨3, ![16, 2048, 2048]⟩
abbrev S16x2048 : Shape := ⟨2, ![16, 2048]⟩
abbrev S1x2048x3328 : Shape := ⟨3, ![1, 2048, 3328]⟩
abbrev S1x3328 : Shape := ⟨2, ![1, 3328]⟩
abbrev S2048x3328 : Shape := ⟨2, ![2048, 3328]⟩
abbrev S16x2048x3328 : Shape := ⟨3, ![16, 2048, 3328]⟩
abbrev S3328 : Shape := ⟨1, ![3328]⟩
abbrev S1x1x3328 : Shape := ⟨3, ![1, 1, 3328]⟩
abbrev S16x2048x1024 : Shape := ⟨3, ![16, 2048, 1024]⟩
abbrev S16x2048x16x64 : Shape := ⟨4, ![16, 2048, 16, 64]⟩
abbrev S32 : Shape := ⟨1, ![32]⟩
abbrev S_ : Shape := ⟨0, ![]⟩
abbrev S16x2048x1 : Shape := ⟨3, ![16, 2048, 1]⟩
abbrev S1x1x32 : Shape := ⟨3, ![1, 1, 32]⟩
abbrev S16x2048x32 : Shape := ⟨3, ![16, 2048, 32]⟩
abbrev S16x2048x1x32 : Shape := ⟨4, ![16, 2048, 1, 32]⟩
abbrev S16x2048x16x32 : Shape := ⟨4, ![16, 2048, 16, 32]⟩
abbrev S16x2048x128 : Shape := ⟨3, ![16, 2048, 128]⟩
abbrev S16x2048x2x64 : Shape := ⟨4, ![16, 2048, 2, 64]⟩
abbrev S16x2048x2x32 : Shape := ⟨4, ![16, 2048, 2, 32]⟩
abbrev S32768x1024 : Shape := ⟨2, ![32768, 1024]⟩
abbrev S1024x32768 : Shape := ⟨2, ![1024, 32768]⟩
abbrev S32768x128 : Shape := ⟨2, ![32768, 128]⟩
abbrev S128x32768 : Shape := ⟨2, ![128, 32768]⟩
abbrev S32768x8x128 : Shape := ⟨3, ![32768, 8, 128]⟩
abbrev S8x32768x128 : Shape := ⟨3, ![8, 32768, 128]⟩

abbrev nBuf : Space → Nat
  | .hbm => 111
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048, .i32⟩
  | .hbm, ⟨2, _⟩ => ⟨S1x2048x3328, .f32⟩
  | .hbm, ⟨3, _⟩ => ⟨S1x3328, .f32⟩
  | .hbm, ⟨4, _⟩ => ⟨S2048x3328, .f32⟩
  | .hbm, ⟨5, _⟩ => ⟨S16x2048x3328, .f32⟩
  | .hbm, ⟨6, _⟩ => ⟨S3328, .f32⟩
  | .hbm, ⟨7, _⟩ => ⟨S1x1x3328, .f32⟩
  | .hbm, ⟨8, _⟩ => ⟨S16x2048x3328, .f32⟩
  | .hbm, ⟨9, _⟩ => ⟨S16x2048x3328, .f32⟩
  | .hbm, ⟨10, _⟩ => ⟨S16x2048x1024, .f32⟩
  | .hbm, ⟨11, _⟩ => ⟨S16x2048x16x64, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S16x2048, .f32⟩
  | .hbm, ⟨26, _⟩ => ⟨S16x2048x1, .f32⟩
  | .hbm, ⟨27, _⟩ => ⟨S1x1x32, .f32⟩
  | .hbm, ⟨28, _⟩ => ⟨S16x2048x32, .f32⟩
  | .hbm, ⟨29, _⟩ => ⟨S16x2048x32, .f32⟩
  | .hbm, ⟨30, _⟩ => ⟨S16x2048x32, .f32⟩
  | .hbm, ⟨31, _⟩ => ⟨S16x2048x32, .f32⟩
  | .hbm, ⟨32, _⟩ => ⟨S16x2048x1x32, .f32⟩
  | .hbm, ⟨33, _⟩ => ⟨S16x2048x32, .f32⟩
  | .hbm, ⟨34, _⟩ => ⟨S16x2048x1x32, .f32⟩
  | .hbm, ⟨35, _⟩ => ⟨S16x2048x16x32, .f32⟩
  | .hbm, ⟨36, _⟩ => ⟨S16x2048x16x32, .f32⟩
  | .hbm, ⟨37, _⟩ => ⟨S16x2048x16x32, .f32⟩
  | .hbm, ⟨38, _⟩ => ⟨S16x2048x16x32, .f32⟩
  | .hbm, ⟨39, _⟩ => ⟨S16x2048x16x32, .f32⟩
  | .hbm, ⟨40, _⟩ => ⟨S16x2048x16x32, .f32⟩
  | .hbm, ⟨41, _⟩ => ⟨S16x2048x16x32, .f32⟩
  | .hbm, ⟨42, _⟩ => ⟨S16x2048x16x32, .f32⟩
  | .hbm, ⟨43, _⟩ => ⟨S16x2048x16x32, .f32⟩
  | .hbm, ⟨44, _⟩ => ⟨S16x2048x16x32, .f32⟩
  | .hbm, ⟨45, _⟩ => ⟨S16x2048x16x32, .f32⟩
  | .hbm, ⟨46, _⟩ => ⟨S16x2048x16x32, .f32⟩
  | .hbm, ⟨47, _⟩ => ⟨S16x2048x16x64, .f32⟩
  | .hbm, ⟨48, _⟩ => ⟨S_, .f32⟩
  | .hbm, ⟨49, _⟩ => ⟨S16x2048x16x64, .f32⟩
  | .hbm, ⟨50, _⟩ => ⟨S16x2048x16x64, .f32⟩
  | .hbm, ⟨51, _⟩ => ⟨S16x2048x128, .f32⟩
  | .hbm, ⟨52, _⟩ => ⟨S16x2048x2x64, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S16x2048, .f32⟩
  | .hbm, ⟨67, _⟩ => ⟨S16x2048x1, .f32⟩
  | .hbm, ⟨68, _⟩ => ⟨S1x1x32, .f32⟩
  | .hbm, ⟨69, _⟩ => ⟨S16x2048x32, .f32⟩
  | .hbm, ⟨70, _⟩ => ⟨S16x2048x32, .f32⟩
  | .hbm, ⟨71, _⟩ => ⟨S16x2048x32, .f32⟩
  | .hbm, ⟨72, _⟩ => ⟨S16x2048x32, .f32⟩
  | .hbm, ⟨73, _⟩ => ⟨S16x2048x1x32, .f32⟩
  | .hbm, ⟨74, _⟩ => ⟨S16x2048x32, .f32⟩
  | .hbm, ⟨75, _⟩ => ⟨S16x2048x1x32, .f32⟩
  | .hbm, ⟨76, _⟩ => ⟨S16x2048x2x32, .f32⟩
  | .hbm, ⟨77, _⟩ => ⟨S16x2048x2x32, .f32⟩
  | .hbm, ⟨78, _⟩ => ⟨S16x2048x2x32, .f32⟩
  | .hbm, ⟨79, _⟩ => ⟨S16x2048x2x32, .f32⟩
  | .hbm, ⟨80, _⟩ => ⟨S16x2048x2x32, .f32⟩
  | .hbm, ⟨81, _⟩ => ⟨S16x2048x2x32, .f32⟩
  | .hbm, ⟨82, _⟩ => ⟨S16x2048x2x32, .f32⟩
  | .hbm, ⟨83, _⟩ => ⟨S16x2048x2x32, .f32⟩
  | .hbm, ⟨84, _⟩ => ⟨S16x2048x2x32, .f32⟩
  | .hbm, ⟨85, _⟩ => ⟨S16x2048x2x32, .f32⟩
  | .hbm, ⟨86, _⟩ => ⟨S16x2048x2x32, .f32⟩
  | .hbm, ⟨87, _⟩ => ⟨S16x2048x2x32, .f32⟩
  | .hbm, ⟨88, _⟩ => ⟨S16x2048x2x64, .f32⟩
  | .hbm, ⟨89, _⟩ => ⟨S16x2048x128, .f32⟩
  | .hbm, ⟨90, _⟩ => ⟨S16x2048x1024, .f32⟩
  | .hbm, ⟨91, _⟩ => ⟨S16x2048x1024, .f32⟩
  | .hbm, ⟨92, _⟩ => ⟨S16x2048x1024, .f32⟩
  | .hbm, ⟨93, _⟩ => ⟨S16x2048x1024, .f32⟩
  | .hbm, ⟨94, _⟩ => ⟨S_, .f32⟩
  | .hbm, ⟨95, _⟩ => ⟨S16x2048x1024, .f32⟩
  | .hbm, ⟨96, _⟩ => ⟨S16x2048x1024, .f32⟩
  | .hbm, ⟨97, _⟩ => ⟨S_, .f32⟩
  | .hbm, ⟨98, _⟩ => ⟨S16x2048x1024, .f32⟩
  | .hbm, ⟨99, _⟩ => ⟨S16x2048x1024, .f32⟩
  | .hbm, ⟨100, _⟩ => ⟨S16x2048x1024, .f32⟩
  | .hbm, ⟨101, _⟩ => ⟨S32768x1024, .f32⟩
  | .hbm, ⟨102, _⟩ => ⟨S1024x32768, .f32⟩
  | .hbm, ⟨103, _⟩ => ⟨S1024x32768, .bf16⟩
  | .hbm, ⟨104, _⟩ => ⟨S32768x128, .f32⟩
  | .hbm, ⟨105, _⟩ => ⟨S32768x128, .bf16⟩
  | .hbm, ⟨106, _⟩ => ⟨S32768x128, .f32⟩
  | .hbm, ⟨107, _⟩ => ⟨S128x32768, .f32⟩
  | .hbm, ⟨108, _⟩ => ⟨S128x32768, .bf16⟩
  | .hbm, ⟨109, _⟩ => ⟨S32768x8x128, .f32⟩
  | .hbm, ⟨110, _⟩ => ⟨S8x32768x128, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_3 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_8 : Ref sig .tc := ⟨.hbm, 94, rfl⟩
abbrev main_v81 : Ref sig .tc := ⟨.hbm, 95, rfl⟩
abbrev main_v82 : Ref sig .tc := ⟨.hbm, 96, rfl⟩
abbrev main_cst_9 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩

abbrev nD : Nat := 1
abbrev τ : Topo := Topo.v7x

variable {F : FTy → Type} [FloatOps F]
-- ==== Proof.Norm.lean ====
/-
  The layer norm of one row of 2048 values over the extended reals, as both the kernels and the reference compute it:
  the mean, the mean of the squared deviations, and the deviation times the reciprocal root, scaled and shifted.
-/
module

public import Idealize.ShloMosaic.Lib.Pointwise

@[expose] public section

noncomputable section

namespace Cert.Layer

open Idealize.ShloMosaic

/-- The mean of a row of 2048 values (the divisor is the f32 word of 2048). -/
def mean (y : Fin 2048 → EReal) : EReal := Ideal.div (∑ k, y k) (Ideal.ofBits .f32 0x45000000#32)

/-- The layer norm of the row `y` at column `c`, with gain `g` and shift `b`. -/
def lnRow (y g b : Fin 2048 → EReal) (c : Fin 2048) : EReal :=
  (y c - mean y) * Ideal.rsqrt (mean (fun k => (y k - mean y) * (y k - mean y)) + Ideal.ofBits .f32 0x3727C5AC#32) * g c + b c

end Cert.Layer

end
-- ==== Proof.OutProj.lean ====
/-
  The output projection with its residual and layer norm: what a grid point writes is, row by row, the layer norm of the
  scaled residual plus the projected row, and the reference computes the same row.
-/
module

public import proofs.«01_k».proof.Proof.Norm
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Layer

open Idealize.ShloMosaic Idealize.ShloMosaic.TcCoe Idealize.SL.Sem
open Idealize.ShloMosaic.Pipeline (Dat)

/-- The row that the second half of the layer starts from: the scaled residual plus the projection of the attention half and
    the convolution half of the mixed row, with the projection's bias. -/
def mixRow (a v : Fin 1024 → EReal) (x : Fin 2048 → EReal) (w : Fin 2048 → Fin 2048 → EReal) (b : Fin 2048 → EReal)
    (c : Fin 2048) : EReal :=
  Ideal.ofBits .f32 0x3F9837F0#32 * x c
    + ((∑ k : Fin 1024, a k * w ⟨k, by omega⟩ c) + (∑ k : Fin 1024, v k * w ⟨1024 + k, by omega⟩ c) + b c)

/-- The normed row depends on its operands only through their values. -/
theorem row_congr {a a' v v' : Fin 1024 → EReal} {x x' : Fin 2048 → EReal} {w w' : Fin 2048 → Fin 2048 → EReal}
    {b b' g g' h h' : Fin 2048 → EReal} {c c' : Fin 2048} (ha : ∀ k, a k = a' k) (hv : ∀ k, v k = v' k) (hx : ∀ k, x k = x' k)
    (hw : ∀ k l, w k l = w' k l) (hb : ∀ k, b k = b' k) (hg : ∀ k, g k = g' k) (hh : ∀ k, h k = h' k) (hc : c = c') :
    lnRow (mixRow a v x w b) g h c = lnRow (mixRow a' v' x' w' b') g' h' c' := by
  rw [funext ha, funext hv, funext hx, funext fun k => funext (hw k), funext hb, funext hg, funext hh, hc]

end Cert.Layer

namespace Cert.Kernel3Ideal.Hand

open Cert.Kernel3Ideal Cert.Kernel3Ideal.Gen Cert.Layer
open Idealize.ShloMosaic Idealize.ShloMosaic.TcCoe Idealize.SL.Sem
open Idealize.ShloMosaic.Pipeline (Dat)

/-- The block a grid point leaves in the output window, index by index, from the seven input blocks. -/
def rowsOf (x0 x1 : Vec Ideal S1024x1024 .bf16) (x2 : Vec Ideal S1024x2048 .f32) (x3 : Vec Ideal S2048x2048 .bf16)
    (x4 x5 x6 : Vec Ideal S1x2048 .f32) : Vec Ideal S1024x2048 .f32 := fun y =>
  lnRow (mixRow (fun k => x0 (ix2 (y 0) k)) (fun k => x1 (ix2 (y 0) k)) (fun k => x2 (ix2 (y 0) k)) (fun k c => x3 (ix2 k c))
    (fun k => x4 (ix2 0 k))) (fun k => x5 (ix2 0 k)) (fun k => x6 (ix2 0 k)) (y 1)

theorem emb4 (a : Fin 256) (b : Fin 2048) : r0_4.emb (ix2 a b) = (ix2 ⟨a, by omega⟩ b : S1024x2048.Idx) := by blk_ext
theorem emb7 (a : Fin 256) (b : Fin 2048) : r0_7.emb (ix2 a b) = (ix2 ⟨256 + a, by omega⟩ b : S1024x2048.Idx) := by blk_ext
theorem emb9 (a : Fin 256) (b : Fin 2048) : r0_9.emb (ix2 a b) = (ix2 ⟨512 + a, by omega⟩ b : S1024x2048.Idx) := by blk_ext
theorem emb10 (a : Fin 256) (b : Fin 2048) : r0_10.emb (ix2 a b) = (ix2 ⟨768 + a, by omega⟩ b : S1024x2048.Idx) := by blk_ext

/-- The four stores of the body, a quarter of the rows each, together are `rowsOf`. -/
theorem out_eq (x0 x1 : Vec Ideal S1024x1024 .bf16) (x2 : Vec Ideal S1024x2048 .f32) (x3 : Vec Ideal S2048x2048 .bf16)
    (x4 x5 x6 : Vec Ideal S1x2048 .f32) (y : S1024x2048.Idx) :
    out0_7 x0 x1 x2 x3 x4 x5 x6 y = rowsOf x0 x1 x2 x3 x4 x5 x6 y := by
  unfold_out out0_7
  refine View.canon_apply_of_pieces (rowsOf x0 x1 x2 x3 x4 x5 x6) _ (fun p hp j => ?_) y (cover0_7 _ _ _ _ y)
  simp only [List.mem_cons, List.not_mem_nil, or_false] at hp
  rcases hp with rfl | rfl | rfl | rfl
  all_goals
    dsimp only at j ⊢
    idx_vars j
    first | rw [emb4] | rw [emb7] | rw [emb9] | rw [emb10]
    unfold_payloads
    unfold rowsOf lnRow mixRow mean
    pointwise

variable (m : (ℓ : Loc nD τ sig) → Buf (Elt Ideal) ℓ) (ρ : Dev nD → PrngReg)

/-- Where the windows of a grid point lie: the row windows at the point's block of rows, the others whole. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] := by decide +kernel

/-- The whole result array: every row is the layer norm of that row of the arguments. -/
def whole (a v : Vec Ideal S32768x1024 .bf16) (x : Vec Ideal S32768x2048 .f32) (w : Vec Ideal S2048x2048 .bf16)
    (b g h : Vec Ideal S1x2048 .f32) : Vec Ideal S32768x2048 .f32 := fun i =>
  lnRow (mixRow (fun k => a (ix2 (i 0) k)) (fun k => v (ix2 (i 0) k)) (fun k => x (ix2 (i 0) k)) (fun k c => w (ix2 k c))
    (fun k => b (ix2 0 k))) (fun k => g (ix2 0 k)) (fun k => h (ix2 0 k)) (i 1)

theorem final (c : Dev nD) : (dats m 0 c).arrAt 7 cfg0.N =
    whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t hf y => ?_
  blk_simp
  rw [after0_7]
  rw [out_eq]
  refine row_congr (fun k => ?_) (fun k => ?_) (fun k => ?_) (fun k l => ?_) (fun k => ?_) (fun k => ?_) (fun k => ?_) ?_
  on_goal 8 => (apply Fin.ext; blk_simp [idx t])
  all_goals blk_ext [iblk, V, idx t]

end Cert.Kernel3Ideal.Hand

namespace Cert.Reference3Ideal.Hand

open Cert.Reference3Ideal Cert.Reference3Ideal.Gen Cert.Layer
open Idealize.ShloMosaic Idealize.ShloMosaic.TcCoe Idealize.SL.Sem

/-- The mean over the columns, one value per row, as the reference writes it. -/
def hostMean (y : FVec Ideal S32768x2048 .f32) : FVec Ideal S32768x1 .f32 :=
  Host.divf (broadcastInDim S32768x1 ![0] bcast_S32768_S32768x1_0
      (Host.reduceAdd y (constant S_ .f32 0x00000000#32) reducesTo_S32768x2048_S32768_d1 h_S_))
    (broadcastInDim S32768x1 ![] bcast_S_S32768x1 (constant S_ .f32 0x45000000#32))

/-- The deviation from the mean. -/
def hostDev (y : FVec Ideal S32768x2048 .f32) : FVec Ideal S32768x2048 .f32 :=
  subf y (broadcastInDim S32768x2048 ![0, 1] bcast_S32768x1_S32768x2048_0_1 (hostMean y))

/-- The reference's layer norm over whole arrays. -/
def hostNorm (y : FVec Ideal S32768x2048 .f32) (g h : FVec Ideal S1x2048 .f32) : FVec Ideal S32768x2048 .f32 :=
  addf (mulf (mulf (hostDev y) (broadcastInDim S32768x2048 ![0, 1] bcast_S32768x1_S32768x2048_0_1
      (Host.rsqrt (addf (hostMean (mulf (hostDev y) (hostDev y)))
        (broadcastInDim S32768x1 ![] bcast_S_S32768x1 (constant S_ .f32 0x3727C5AC#32))))))
    (broadcastInDim S32768x2048 ![0, 1] bcast_S1x2048_S32768x2048_0_1
      (broadcastInDim S1x2048 ![1] bcast_S2048_S1x2048_1 (shapeCast _ g shapeCasts_S1x2048_S2048))))
    (broadcastInDim S32768x2048 ![0, 1] bcast_S1x2048_S32768x2048_0_1
      (broadcastInDim S1x2048 ![1] bcast_S2048_S1x2048_1 (shapeCast _ h shapeCasts_S1x2048_S2048)))

theorem hostMean_apply (y : FVec Ideal S32768x2048 .f32) (r : Fin 32768) (z : Fin 1) :
    hostMean y (ix2 r z) = mean (fun k => y (ix2 r k)) := by
  unfold mean
  pointwise [hostMean]

theorem hostDev_apply (y : FVec Ideal S32768x2048 .f32) (r : Fin 32768) (l : Fin 2048) :
    hostDev y (ix2 r l) = y (ix2 r l) - mean (fun k => y (ix2 r k)) := by
  pointwise [hostDev]
  rw [hostMean_apply]

theorem hostNorm_apply (y : FVec Ideal S32768x2048 .f32) (g h : FVec Ideal S1x2048 .f32) (r : Fin 32768) (l : Fin 2048) :
    hostNorm y g h (ix2 r l) = lnRow (fun k => y (ix2 r k)) (fun k => g (ix2 0 k)) (fun k => h (ix2 0 k)) l := by
  unfold lnRow
  pointwise [hostNorm]
  rw [hostMean_apply, hostDev_apply]
  simp only [mulf_apply, Ideal.mulf_def, hostDev_apply]

/-- The scaled residual plus the projected row with its bias, over whole arrays. -/
def hostMix (a v : FVec Ideal S32768x1024 .bf16) (x : FVec Ideal S32768x2048 .f32) (w : FVec Ideal S2048x2048 .bf16)
    (b : FVec Ideal S1x2048 .f32) : FVec Ideal S32768x2048 .f32 :=
  addf (mulf (broadcastInDim S32768x2048 ![] bcast_S_S32768x2048 (constant S_ .f32 0x3F9837F0#32)) x)
    (addf (Host.dotGeneral dot_S32768x2048_S2048x2048_S32768x2048_1_0_0_1_n_n none
      (concatenate S32768x2048 1 [⟨S32768x1024, (extf .f32 a bitsLt_bf16_f32)⟩, ⟨S32768x1024, (extf .f32 v bitsLt_bf16_f32)⟩]
        concatenates_S32768x1024_S32768x1024_S32768x2048_d1) (extf .f32 w bitsLt_bf16_f32))
      (broadcastInDim S32768x2048 ![0, 1] bcast_S1x2048_S32768x2048_0_1
        (broadcastInDim S1x2048 ![1] bcast_S2048_S1x2048_1 (shapeCast _ b shapeCasts_S1x2048_S2048))))

theorem hostMix_apply (a v : FVec Ideal S32768x1024 .bf16) (x : FVec Ideal S32768x2048 .f32) (w : FVec Ideal S2048x2048 .bf16)
    (b : FVec Ideal S1x2048 .f32) (r : Fin 32768) (l : Fin 2048) :
    hostMix a v x w b (ix2 r l) = mixRow (fun k => a (ix2 r k)) (fun k => v (ix2 r k)) (fun k => x (ix2 r k))
      (fun k c => w (ix2 k c)) (fun k => b (ix2 0 k)) l := by
  unfold mixRow
  pointwise [hostMix]

/-- The reference's result is the same array of normed rows. -/
theorem res_eq (m : (ℓ : Loc nD τ sig) → Buf (Elt Ideal) ℓ) (c : Dev nD) : Value.res_out0 m c =
    Cert.Kernel3Ideal.Hand.whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  have e : Value.res_out0 m c = hostNorm (hostMix (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) := rfl
  rw [e]
  funext i
  obtain ⟨r, l, rfl⟩ : ∃ (r : Fin 32768) (l : Fin 2048), i = ix2 r l := ⟨i 0, i 1, eq_ix2 i⟩
  rw [hostNorm_apply]
  simp only [hostMix_apply]
  rfl

end Cert.Reference3Ideal.Hand

end
-- ==== Proof.InProj.lean ====
/-
  The input projection with the rotary turn and the gate: what a grid point writes into its four output windows, element by
  element.
-/
module

public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Layer

open Idealize.ShloMosaic Idealize.ShloMosaic.TcCoe Idealize.SL.Sem

/-- One projected value: a row against a column, plus the bias. -/
def proj (x w : Fin 2048 → EReal) (b : EReal) : EReal := (∑ k, x k * w k) + b

theorem proj_comm (x w : Fin 2048 → EReal) (b : EReal) : proj x w b = proj w x b := by
  unfold proj
  simp only [mul_comm]

/-- The rotary turn of a head of 64 values by 32 angles: value `d` is turned together with the value 32 places away. -/
def turn (h : Fin 64 → EReal) (s : Fin 32 → EReal) (d : Fin 64) : EReal :=
  if q : d.val < 32 then h ⟨d, by omega⟩ * Ideal.cos (s ⟨d, q⟩) - h ⟨32 + d, by omega⟩ * Ideal.sin (s ⟨d, q⟩)
  else h ⟨32 + (d - 32), by omega⟩ * Ideal.cos (s ⟨d - 32, by omega⟩) + h ⟨d - 32, by omega⟩ * Ideal.sin (s ⟨d - 32, by omega⟩)

/-- The angle of a frequency at a position. -/
def angle (f : EReal) (p : BitVec 32) : EReal := f * (FloatOps.sitofp (F := Ideal) .f32 p : Ideal .f32)

/-- The value times the logistic of its gate. -/
def gated (a g : EReal) : EReal := a * Ideal.logistic g

end Cert.Layer

namespace Cert.Kernel4Ideal.Hand

open Cert.Kernel4Ideal Cert.Kernel4Ideal.Gen Cert.Layer
open Idealize.ShloMosaic Idealize.ShloMosaic.TcCoe Idealize.SL.Sem
open Idealize.ShloMosaic.Pipeline (Dat)

/-- The query block of a grid point, from its input blocks. -/
def qBlock (x0 : Vec Ideal S1024x2048 .f32) (x1 : Vec Ideal S1x1024 .i32) (x2 : Vec Ideal S32x1 .f32)
    (x3 : Vec Ideal S1280x2048 .bf16) (x4 : Vec Ideal S1280x1 .f32) : Vec Ideal S1024x1024 .bf16 := fun y =>
  turn (fun d => proj (fun k => x3 (ix2 ⟨64 * ((y 0).val / 64) + d.val, by have := (y 0).isLt; change _ < 1024 at this; omega⟩ k))
      (fun k => x0 (ix2 (y 1) k)) (x4 (ix2 ⟨64 * ((y 0).val / 64) + d.val, by have := (y 0).isLt; change _ < 1024 at this; omega⟩ 0)))
    (fun j => angle (x2 (ix2 j 0)) (x1 (ix2 0 (y 1)))) ⟨(y 0).val % 64, Nat.mod_lt _ (by decide)⟩
    * Ideal.ofBits .f32 0x3E000000#32

/-- The key block of a grid point. -/
def kBlock (x0 : Vec Ideal S1024x2048 .f32) (x1 : Vec Ideal S1x1024 .i32) (x2 : Vec Ideal S32x1 .f32)
    (x3 : Vec Ideal S1280x2048 .bf16) (x4 : Vec Ideal S1280x1 .f32) : Vec Ideal S1024x128 .bf16 := fun y =>
  turn (fun d => proj (fun k => x3 (ix2 ⟨1024 + (64 * ((y 1).val / 64) + d.val), by have := (y 1).isLt; change _ < 128 at this; omega⟩ k))
      (fun k => x0 (ix2 (y 0) k)) (x4 (ix2 ⟨1024 + (64 * ((y 1).val / 64) + d.val), by have := (y 1).isLt; change _ < 128 at this; omega⟩ 0)))
    (fun j => angle (x2 (ix2 j 0)) (x1 (ix2 0 (y 0)))) ⟨(y 1).val % 64, Nat.mod_lt _ (by decide)⟩

/-- The value block of a grid point. -/
def vBlock (x0 : Vec Ideal S1024x2048 .f32) (x3 : Vec Ideal S1280x2048 .bf16) (x4 : Vec Ideal S1280x1 .f32) :
    Vec Ideal S128x1024 .bf16 := fun y =>
  proj (fun k => x3 (ix2 ⟨1152 + (y 0).val, by have := (y 0).isLt; change _ < 128 at this; omega⟩ k)) (fun k => x0 (ix2 (y 1) k))
    (x4 (ix2 ⟨1152 + (y 0).val, by have := (y 0).isLt; change _ < 128 at this; omega⟩ 0))

/-- The gated block of a grid point. -/
def uBlock (x0 : Vec Ideal S1024x2048 .f32) (x5 : Vec Ideal S2048x2048 .bf16) (x6 : Vec Ideal S1x2048 .f32) :
    Vec Ideal S8x1024x128 .f32 := fun y =>
  gated (proj (fun k => x0 (ix2 (y 1) k)) (fun k => x5 (ix2 k ⟨128 * (y 0).val + (y 2).val, by have h0 := (y 0).isLt; have h2 := (y 2).isLt; change _ < 8 at h0; change _ < 128 at h2; omega⟩))
      (x6 (ix2 0 ⟨128 * (y 0).val + (y 2).val, by have h0 := (y 0).isLt; have h2 := (y 2).isLt; change _ < 8 at h0; change _ < 128 at h2; omega⟩)))
    (proj (fun k => x0 (ix2 (y 1) k)) (fun k => x5 (ix2 k ⟨1024 + (128 * (y 0).val + (y 2).val), by have h0 := (y 0).isLt; have h2 := (y 2).isLt; change _ < 8 at h0; change _ < 128 at h2; omega⟩))
      (x6 (ix2 0 ⟨1024 + (128 * (y 0).val + (y 2).val), by have h0 := (y 0).isLt; have h2 := (y 2).isLt; change _ < 8 at h0; change _ < 128 at h2; omega⟩)))

/-- The query block at row `a` of the head that starts at row `o`. -/
theorem qBlock_at (x0 : Vec Ideal S1024x2048 .f32) (x1 : Vec Ideal S1x1024 .i32) (x2 : Vec Ideal S32x1 .f32)
    (x3 : Vec Ideal S1280x2048 .bf16) (x4 : Vec Ideal S1280x1 .f32) (o : ℕ) (ho : o % 64 = 0) (hb : o < 1024) (a : Fin 64) (t : Fin 1024)
    (y : S1024x1024.Idx) (hr : (y 0).val = o + 1 * a.val) (hy : (y 1).val = 0 + 1 * t.val) : qBlock x0 x1 x2 x3 x4 y =
    turn (fun d => proj (fun k => x3 (ix2 ⟨o + d.val, by omega⟩ k)) (fun k => x0 (ix2 t k))
      (x4 (ix2 ⟨o + d.val, by omega⟩ 0))) (fun j => angle (x2 (ix2 j 0)) (x1 (ix2 0 t))) a
      * Ideal.ofBits .f32 0x3E000000#32 := by
  have h1 : 64 * ((y 0).val / 64) = o := by omega
  have h2 : (y 0).val % 64 = a.val := by omega
  have ht : y 1 = t := Fin.ext (by omega)
  unfold qBlock
  simp only [h1, h2, ht]

set_option maxHeartbeats 4000000 in
/-- The sixteen stores of the query window, a head each, together are `qBlock`. -/
theorem q_eq (x0 : Vec Ideal S1024x2048 .f32) (x1 : Vec Ideal S1x1024 .i32) (x2 : Vec Ideal S32x1 .f32)
    (x3 : Vec Ideal S1280x2048 .bf16) (x4 : Vec Ideal S1280x1 .f32) (x5 : Vec Ideal S2048x2048 .bf16) (x6 : Vec Ideal S1x2048 .f32)
    (y : S1024x1024.Idx) : out0_7 x0 x1 x2 x3 x4 x5 x6 y = qBlock x0 x1 x2 x3 x4 y := by
  unfold_out out0_7
  refine View.canon_apply_of_pieces (qBlock x0 x1 x2 x3 x4) _ (fun p hp j => ?_) y (cover0_7 _ _ _ _ _ _ _ _ _ _ _ _ _ _ _ _ y)
  simp only [List.mem_cons, List.not_mem_nil, or_false] at hp
  rcases hp with rfl | rfl | rfl | rfl | rfl | rfl | rfl | rfl | rfl | rfl | rfl | rfl | rfl | rfl | rfl | rfl
  all_goals
    dsimp only at j ⊢
    idx_vars j
    refine Eq.trans ?_ (qBlock_at x0 x1 x2 x3 x4 _ ?_ ?_ _ _ _ rfl rfl).symm
    on_goal 2 => decide
    on_goal 2 => decide
    unfold_payloads
    unfold turn proj angle
    pointwise

/-- The key block at column `a`: the first head, or the second. -/
theorem kBlock_at (x0 : Vec Ideal S1024x2048 .f32) (x1 : Vec Ideal S1x1024 .i32) (x2 : Vec Ideal S32x1 .f32)
    (x3 : Vec Ideal S1280x2048 .bf16) (x4 : Vec Ideal S1280x1 .f32) (t : Fin 1024) (a : Fin 128) :
    kBlock x0 x1 x2 x3 x4 (ix2 t a) =
    if q : a.val < 64 then turn (fun d => proj (fun k => x3 (ix2 ⟨1024 + d.val, by omega⟩ k)) (fun k => x0 (ix2 t k))
        (x4 (ix2 ⟨1024 + d.val, by omega⟩ 0))) (fun j => angle (x2 (ix2 j 0)) (x1 (ix2 0 t))) ⟨a.val, q⟩
    else turn (fun d => proj (fun k => x3 (ix2 ⟨1088 + d.val, by omega⟩ k)) (fun k => x0 (ix2 t k))
        (x4 (ix2 ⟨1088 + d.val, by omega⟩ 0))) (fun j => angle (x2 (ix2 j 0)) (x1 (ix2 0 t))) ⟨a.val - 64, by omega⟩ := by
  change turn (fun d => proj (fun k => x3 (ix2 ⟨1024 + (64 * (a.val / 64) + d.val), _⟩ k)) (fun k => x0 (ix2 t k))
    (x4 (ix2 ⟨1024 + (64 * (a.val / 64) + d.val), _⟩ 0))) (fun j => angle (x2 (ix2 j 0)) (x1 (ix2 0 t))) ⟨a.val % 64, _⟩ = _
  split
  · have h1 : ∀ d, 1024 + (64 * (a.val / 64) + d) = 1024 + d := fun d => by omega
    have h2 : a.val % 64 = a.val := by omega
    simp only [h1, h2]
  · have h1 : ∀ d, 1024 + (64 * (a.val / 64) + d) = 1088 + d := fun d => by omega
    have h2 : a.val % 64 = a.val - 64 := by omega
    simp only [h1, h2]

theorem emb21 (a : Fin 1024) (b : Fin 128) : r0_21.emb (ix2 a b) = (ix2 a b : S1024x128.Idx) := by blk_ext
theorem emb22 (a : Fin 128) (b : Fin 1024) : r0_22.emb (ix2 a b) = (ix2 a b : S128x1024.Idx) := by blk_ext

theorem k_eq (x0 : Vec Ideal S1024x2048 .f32) (x1 : Vec Ideal S1x1024 .i32) (x2 : Vec Ideal S32x1 .f32)
    (x3 : Vec Ideal S1280x2048 .bf16) (x4 : Vec Ideal S1280x1 .f32) (x5 : Vec Ideal S2048x2048 .bf16) (x6 : Vec Ideal S1x2048 .f32)
    (y : S1024x128.Idx) : out0_8 x0 x1 x2 x3 x4 x5 x6 y = kBlock x0 x1 x2 x3 x4 y := by
  unfold_out out0_8
  refine View.canon_apply_of_pieces (kBlock x0 x1 x2 x3 x4) _ (fun p hp j => ?_) y (cover0_8 _ y)
  simp only [List.mem_cons, List.not_mem_nil, or_false] at hp
  subst hp
  dsimp only at j ⊢
  idx_vars j
  rw [emb21, kBlock_at]
  unfold_payloads
  unfold turn proj angle
  pointwise

theorem v_eq (x0 : Vec Ideal S1024x2048 .f32) (x1 : Vec Ideal S1x1024 .i32) (x2 : Vec Ideal S32x1 .f32)
    (x3 : Vec Ideal S1280x2048 .bf16) (x4 : Vec Ideal S1280x1 .f32) (x5 : Vec Ideal S2048x2048 .bf16) (x6 : Vec Ideal S1x2048 .f32)
    (y : S128x1024.Idx) : out0_9 x0 x1 x2 x3 x4 x5 x6 y = vBlock x0 x3 x4 y := by
  unfold_out out0_9
  refine View.canon_apply_of_pieces (vBlock x0 x3 x4) _ (fun p hp j => ?_) y (cover0_9 _ y)
  simp only [List.mem_cons, List.not_mem_nil, or_false] at hp
  subst hp
  dsimp only at j ⊢
  idx_vars j
  rw [emb22]
  unfold_payloads
  unfold vBlock proj
  pointwise

/-- The gated block at lane `l` of the slab `o`. -/
theorem uBlock_at (x0 : Vec Ideal S1024x2048 .f32) (x5 : Vec Ideal S2048x2048 .bf16) (x6 : Vec Ideal S1x2048 .f32) (o : ℕ)
    (hb : o < 8) (z : Fin 1) (t : Fin 1024) (l : Fin 128) (y : S8x1024x128.Idx) (h0 : (y 0).val = o + 1 * z.val)
    (h1 : (y 1).val = 0 + 1 * t.val) (h2 : (y 2).val = 0 + 1 * l.val) :
    uBlock x0 x5 x6 y =
    gated (proj (fun k => x0 (ix2 t k)) (fun k => x5 (ix2 k ⟨128 * o + l.val, by omega⟩)) (x6 (ix2 0 ⟨128 * o + l.val, by omega⟩)))
      (proj (fun k => x0 (ix2 t k)) (fun k => x5 (ix2 k ⟨1024 + (128 * o + l.val), by omega⟩))
        (x6 (ix2 0 ⟨1024 + (128 * o + l.val), by omega⟩))) := by
  have e0 : (y 0).val = o := by omega
  have e1 : y 1 = t := Fin.ext (by omega)
  have e2 : y 2 = l := Fin.ext (by omega)
  unfold uBlock
  simp only [e0, e1, e2]

theorem u_eq (x0 : Vec Ideal S1024x2048 .f32) (x1 : Vec Ideal S1x1024 .i32) (x2 : Vec Ideal S32x1 .f32)
    (x3 : Vec Ideal S1280x2048 .bf16) (x4 : Vec Ideal S1280x1 .f32) (x5 : Vec Ideal S2048x2048 .bf16) (x6 : Vec Ideal S1x2048 .f32)
    (y : S8x1024x128.Idx) : out0_10 x0 x1 x2 x3 x4 x5 x6 y = uBlock x0 x5 x6 y := by
  unfold_out out0_10
  refine View.canon_apply_of_pieces (uBlock x0 x5 x6) _ (fun p hp j => ?_) y (cover0_10 _ _ _ _ _ _ _ _ y)
  simp only [List.mem_cons, List.not_mem_nil, or_false] at hp
  rcases hp with rfl | rfl | rfl | rfl | rfl | rfl | rfl | rfl
  all_goals
    dsimp only at j ⊢
    idx_vars j
    refine Eq.trans ?_ (uBlock_at x0 x5 x6 _ ?_ _ _ _ _ rfl rfl rfl).symm
    on_goal 2 => decide
    unfold_payloads
    unfold gated proj
    pointwise
    try simp only [← Nat.add_assoc, Nat.reduceAdd]

end Cert.Kernel4Ideal.Hand

end
-- ==== Proof.InProjVal.lean ====
/-
  The four whole arrays of the input projection, from the kernel's arguments, and that every block of a grid point is a block of them.
-/
module

public import proofs.«01_k».proof.Proof.InProj

@[expose] public section

set_option maxRecDepth 16384

noncomputable section

namespace Cert.Layer

open Idealize.ShloMosaic Idealize.ShloMosaic.TcCoe Idealize.SL.Sem

/-- The turning frequency of a pair of values: one over ten thousand to the power of twice its place over 64. -/
def freq (j : Fin 32) : EReal :=
  Ideal.div 1 (Ideal.pow (Ideal.ofBits .f32 0x461C4000#32)
    (Ideal.div ((FloatOps.sitofp (F := Ideal) .f32 (BitVec.ofNat 32 j.val) : Ideal .f32) * Ideal.ofBits .f32 0x40000000#32)
      (Ideal.ofBits .f32 0x42800000#32)))

end Cert.Layer

namespace Cert.Kernel4Ideal.Hand

open Cert.Kernel4Ideal Cert.Kernel4Ideal.Gen Cert.Layer
open Idealize.ShloMosaic Idealize.ShloMosaic.TcCoe Idealize.SL.Sem
open Idealize.ShloMosaic.Pipeline (Dat)

/-- The projected value of a token at a column. -/
def projAt (x : Vec Ideal S16x2048x2048 .f32) (w : Vec Ideal S1x2048x3328 .f32) (b : Vec Ideal S1x3328 .f32) (t : Fin 32768)
    (n : Fin 3328) : EReal :=
  proj (fun k => x (ix3 ⟨t.val / 2048, by omega⟩ ⟨t.val % 2048, by omega⟩ k)) (fun k => w (ix3 0 k n)) (b (ix2 0 n))

/-- The angle of a token at a frequency. -/
def angleAt (p : Vec Ideal S16x2048 .i32) (t : Fin 32768) (j : Fin 32) : EReal :=
  angle (freq j) (p (ix2 ⟨t.val / 2048, by omega⟩ ⟨t.val % 2048, by omega⟩))

/-- The queries, one row per head and place in the head, one column per token: turned and scaled. -/
def qAt (x : Vec Ideal S16x2048x2048 .f32) (p : Vec Ideal S16x2048 .i32) (w : Vec Ideal S1x2048x3328 .f32)
    (b : Vec Ideal S1x3328 .f32) (r : Fin 1024) (t : Fin 32768) : EReal :=
  turn (fun d => projAt x w b t ⟨64 * (r.val / 64) + d.val, by omega⟩) (angleAt p t) ⟨r.val % 64, by omega⟩
    * Ideal.ofBits .f32 0x3E000000#32

/-- The keys of the two shared heads: turned. -/
def kAt (x : Vec Ideal S16x2048x2048 .f32) (p : Vec Ideal S16x2048 .i32) (w : Vec Ideal S1x2048x3328 .f32)
    (b : Vec Ideal S1x3328 .f32) (t : Fin 32768) (r : Fin 128) : EReal :=
  turn (fun d => projAt x w b t ⟨1024 + (64 * (r.val / 64) + d.val), by omega⟩) (angleAt p t) ⟨r.val % 64, by omega⟩

/-- The values of the two shared heads. -/
def vAt (x : Vec Ideal S16x2048x2048 .f32) (w : Vec Ideal S1x2048x3328 .f32) (b : Vec Ideal S1x3328 .f32) (r : Fin 128)
    (t : Fin 32768) : EReal :=
  projAt x w b t ⟨1152 + r.val, by omega⟩

/-- The gated half, in slabs of 128 columns. -/
def uAt (x : Vec Ideal S16x2048x2048 .f32) (w : Vec Ideal S1x2048x3328 .f32) (b : Vec Ideal S1x3328 .f32) (s : Fin 8)
    (t : Fin 32768) (l : Fin 128) : EReal :=
  gated (projAt x w b t ⟨1280 + (128 * s.val + l.val), by omega⟩) (projAt x w b t ⟨2304 + (128 * s.val + l.val), by omega⟩)

def qAll (x : Vec Ideal S16x2048x2048 .f32) (p : Vec Ideal S16x2048 .i32) (w : Vec Ideal S1x2048x3328 .f32)
    (b : Vec Ideal S1x3328 .f32) : Vec Ideal S1024x32768 .bf16 := fun i => qAt x p w b (i 0) (i 1)

def kAll (x : Vec Ideal S16x2048x2048 .f32) (p : Vec Ideal S16x2048 .i32) (w : Vec Ideal S1x2048x3328 .f32)
    (b : Vec Ideal S1x3328 .f32) : Vec Ideal S32768x128 .bf16 := fun i => kAt x p w b (i 0) (i 1)

def vAll (x : Vec Ideal S16x2048x2048 .f32) (w : Vec Ideal S1x2048x3328 .f32) (b : Vec Ideal S1x3328 .f32) :
    Vec Ideal S128x32768 .bf16 := fun i => vAt x w b (i 0) (i 1)

def uAll (x : Vec Ideal S16x2048x2048 .f32) (w : Vec Ideal S1x2048x3328 .f32) (b : Vec Ideal S1x3328 .f32) :
    Vec Ideal S8x32768x128 .f32 := fun i => uAt x w b (i 0) (i 1) (i 2)

variable (m : (ℓ : Loc nD τ sig) → Buf (Elt Ideal) ℓ) (ρ : Dev nD → PrngReg)

/-! What the operations before the launch leave in the arrays the windows read. -/

theorem V11 (c : Dev nD) (r : Fin 32768) (k : Fin 2048) : V m c main_v11 (ix2 r k) =
    m ((c : Thread nD τ).loc main_arg0) (ix3 ⟨r.val / 2048, by omega⟩ ⟨r.val % 2048, by omega⟩ k) := by
  show StableHlo.after hostOps0 (fun b => m (c, b)) (Proc.devRef .tc _) _ = _
  after_results_simp
  pointwise

theorem V9 (c : Dev nD) (k : Fin 32) : V m c main_v9 (ix2 k 0) = freq k := by
  show StableHlo.after hostOps0 (fun b => m (c, b)) (Proc.devRef .tc _) _ = _
  after_results_simp
  unfold freq
  pointwise

theorem V10 (c : Dev nD) (r : Fin 32768) : V m c main_v10 (ix2 0 r) =
    m ((c : Thread nD τ).loc main_arg1) (ix2 ⟨r.val / 2048, by omega⟩ ⟨r.val % 2048, by omega⟩) := by
  show StableHlo.after hostOps0 (fun b => m (c, b)) (Proc.devRef .tc _) _ = _
  after_results_simp
  pointwise

theorem V15 (c : Dev nD) (n : Fin 1280) (k : Fin 2048) : V m c main_v15 (ix2 n k) =
    m ((c : Thread nD τ).loc main_arg2) (ix3 0 k ⟨n.val, by omega⟩) := by
  show StableHlo.after hostOps0 (fun b => m (c, b)) (Proc.devRef .tc _) _ = _
  after_results_simp
  pointwise

theorem V18 (c : Dev nD) (n : Fin 1280) : V m c main_v18 (ix2 n 0) =
    m ((c : Thread nD τ).loc main_arg3) (ix2 0 ⟨n.val, by omega⟩) := by
  show StableHlo.after hostOps0 (fun b => m (c, b)) (Proc.devRef .tc _) _ = _
  after_results_simp
  pointwise

theorem V21 (c : Dev nD) (k n : Fin 2048) : V m c main_v21 (ix2 k n) =
    m ((c : Thread nD τ).loc main_arg2) (ix3 0 k ⟨1280 + n.val, by omega⟩) := by
  show StableHlo.after hostOps0 (fun b => m (c, b)) (Proc.devRef .tc _) _ = _
  after_results_simp
  pointwise

theorem V24 (c : Dev nD) (n : Fin 2048) : V m c main_v24 (ix2 0 n) =
    m ((c : Thread nD τ).loc main_arg3) (ix2 0 ⟨1280 + n.val, by omega⟩) := by
  show StableHlo.after hostOps0 (fun b => m (c, b)) (Proc.devRef .tc _) _ = _
  after_results_simp
  pointwise

/-- Where the windows of a grid point lie: the token windows at the point's block of tokens, the others whole. -/
theorem idx : ∀ t : Fin grid0.N, win0_0.index t = ![t.val, 0] ∧ win0_1.index t = ![0, t.val] ∧ win0_2.index t = ![0, 0]
    ∧ win0_3.index t = ![0, 0] ∧ win0_4.index t = ![0, 0] ∧ win0_5.index t = ![0, 0] ∧ win0_6.index t = ![0, 0]
    ∧ win0_7.index t = ![0, t.val] ∧ win0_8.index t = ![t.val, 0] ∧ win0_9.index t = ![0, t.val]
    ∧ win0_10.index t = ![0, t.val, 0] := by decide +kernel

theorem lt_N (t : Fin grid0.N) : t.val < 32 := lt_of_lt_of_eq t.isLt (by decide +kernel)

/-- The token a grid point's place `r` stands for. -/
def tok (t : Fin grid0.N) (r : Fin 1024) : Fin 32768 := ⟨t.val * 1024 + r.val, by have := lt_N t; omega⟩

/-! The input blocks of a grid point, element by element. -/

theorem blk0 (c : Dev nD) (t : Fin grid0.N) (r : Fin 1024) (k : Fin 2048) : iblk m c 0 t (ix2 r k) = V m c main_v11 (ix2 (tok t r) k) := by
  unfold tok
  blk_ext [iblk, idx t]

theorem blk1 (c : Dev nD) (t : Fin grid0.N) (r : Fin 1024) : iblk m c 1 t (ix2 0 r) = V m c main_v10 (ix2 0 (tok t r)) := by
  unfold tok
  blk_ext [iblk, idx t]

theorem blk2 (c : Dev nD) (t : Fin grid0.N) (j : Fin 32) : iblk m c 2 t (ix2 j 0) = V m c main_v9 (ix2 j 0) := by
  blk_ext [iblk, idx t]

theorem blk3 (c : Dev nD) (t : Fin grid0.N) (n : Fin 1280) (k : Fin 2048) : iblk m c 3 t (ix2 n k) = V m c main_v15 (ix2 n k) := by
  blk_ext [iblk, idx t]

theorem blk4 (c : Dev nD) (t : Fin grid0.N) (n : Fin 1280) : iblk m c 4 t (ix2 n 0) = V m c main_v18 (ix2 n 0) := by
  blk_ext [iblk, idx t]

theorem blk5 (c : Dev nD) (t : Fin grid0.N) (k n : Fin 2048) : iblk m c 5 t (ix2 k n) = V m c main_v21 (ix2 k n) := by
  blk_ext [iblk, idx t]

theorem blk6 (c : Dev nD) (t : Fin grid0.N) (n : Fin 2048) : iblk m c 6 t (ix2 0 n) = V m c main_v24 (ix2 0 n) := by
  blk_ext [iblk, idx t]

/-- A projected value in the transposed half, at a block. -/
theorem projT (c : Dev nD) (t : Fin grid0.N) (r : Fin 1024) (n : Fin 1280) :
    proj (fun k => iblk m c 3 t (ix2 n k)) (fun k => iblk m c 0 t (ix2 r k)) (iblk m c 4 t (ix2 n 0)) =
    projAt (m ((c : Thread nD τ).loc main_arg0)) (m ((c : Thread nD τ).loc main_arg2)) (m ((c : Thread nD τ).loc main_arg3)) (tok t r)
      ⟨n.val, by omega⟩ := by
  rw [proj_comm]
  unfold projAt
  rw [blk4, V18]
  exact congrArg₂ (fun x w => proj x w _) (funext fun k => (blk0 m c t r k).trans (V11 m c _ k))
    (funext fun k => (blk3 m c t n k).trans (V15 m c n k))

/-- A projected value in the half that is not transposed, at a block. -/
theorem projN (c : Dev nD) (t : Fin grid0.N) (r : Fin 1024) (n : Fin 2048) :
    proj (fun k => iblk m c 0 t (ix2 r k)) (fun k => iblk m c 5 t (ix2 k n)) (iblk m c 6 t (ix2 0 n)) =
    projAt (m ((c : Thread nD τ).loc main_arg0)) (m ((c : Thread nD τ).loc main_arg2)) (m ((c : Thread nD τ).loc main_arg3)) (tok t r)
      ⟨1280 + n.val, by omega⟩ := by
  unfold projAt
  rw [blk6, V24]
  exact congrArg₂ (fun x w => proj x w _) (funext fun k => (blk0 m c t r k).trans (V11 m c _ k))
    (funext fun k => (blk5 m c t k n).trans (V21 m c k n))

/-- An angle at a block. -/
theorem angleB (c : Dev nD) (t : Fin grid0.N) (r : Fin 1024) (j : Fin 32) :
    angle (iblk m c 2 t (ix2 j 0)) (iblk m c 1 t (ix2 0 r)) = angleAt (m ((c : Thread nD τ).loc main_arg1)) (tok t r) j := by
  unfold angleAt
  rw [blk2, V9, blk1, V10]

/-! The four output blocks of a grid point are blocks of the whole arrays. -/

theorem q_blk (c : Dev nD) (t : Fin grid0.N) (a b : Fin 1024) :
    qBlock (iblk m c 0 t) (iblk m c 1 t) (iblk m c 2 t) (iblk m c 3 t) (iblk m c 4 t) (ix2 a b) =
    qAt (m ((c : Thread nD τ).loc main_arg0)) (m ((c : Thread nD τ).loc main_arg1)) (m ((c : Thread nD τ).loc main_arg2)) (m ((c : Thread nD τ).loc main_arg3)) a (tok t b) :=
  congrArg (· * Ideal.ofBits .f32 0x3E000000#32) (congrArg₂ (fun h s => turn h s ⟨a.val % 64, by omega⟩)
    (funext fun d => projT m c t b ⟨64 * (a.val / 64) + d.val, by omega⟩) (funext fun j => angleB m c t b j))

theorem k_blk (c : Dev nD) (t : Fin grid0.N) (b : Fin 1024) (a : Fin 128) :
    kBlock (iblk m c 0 t) (iblk m c 1 t) (iblk m c 2 t) (iblk m c 3 t) (iblk m c 4 t) (ix2 b a) =
    kAt (m ((c : Thread nD τ).loc main_arg0)) (m ((c : Thread nD τ).loc main_arg1)) (m ((c : Thread nD τ).loc main_arg2)) (m ((c : Thread nD τ).loc main_arg3)) (tok t b) a :=
  congrArg₂ (fun h s => turn h s ⟨a.val % 64, by omega⟩)
    (funext fun d => projT m c t b ⟨1024 + (64 * (a.val / 64) + d.val), by omega⟩) (funext fun j => angleB m c t b j)

theorem v_blk (c : Dev nD) (t : Fin grid0.N) (a : Fin 128) (b : Fin 1024) :
    vBlock (iblk m c 0 t) (iblk m c 3 t) (iblk m c 4 t) (ix2 a b) = vAt (m ((c : Thread nD τ).loc main_arg0)) (m ((c : Thread nD τ).loc main_arg2)) (m ((c : Thread nD τ).loc main_arg3)) a (tok t b) :=
  projT m c t b ⟨1152 + a.val, by omega⟩

theorem u_blk (c : Dev nD) (t : Fin grid0.N) (s : Fin 8) (b : Fin 1024) (l : Fin 128) :
    uBlock (iblk m c 0 t) (iblk m c 5 t) (iblk m c 6 t) (ix3 s b l) =
    uAt (m ((c : Thread nD τ).loc main_arg0)) (m ((c : Thread nD τ).loc main_arg2)) (m ((c : Thread nD τ).loc main_arg3)) s (tok t b) l := by
  refine congrArg₂ gated (projN m c t b ⟨128 * s.val + l.val, by omega⟩)
    ((projN m c t b ⟨1024 + (128 * s.val + l.val), by omega⟩).trans ?_)
  exact congrArg (projAt _ _ _ _) (Fin.ext (by show 1280 + (1024 + _) = 2304 + _; omega))

theorem emb_q (t : Fin grid0.N) (a b : Fin 1024) : (win0_7.blk t).view.emb (ix2 a b) = (ix2 a (tok t b) : S1024x32768.Idx) := by
  unfold tok
  blk_ext [idx t]

theorem emb_k (t : Fin grid0.N) (a : Fin 1024) (b : Fin 128) : (win0_8.blk t).view.emb (ix2 a b) = (ix2 (tok t a) b : S32768x128.Idx) := by
  unfold tok
  blk_ext [idx t]

theorem emb_v (t : Fin grid0.N) (a : Fin 128) (b : Fin 1024) : (win0_9.blk t).view.emb (ix2 a b) = (ix2 a (tok t b) : S128x32768.Idx) := by
  unfold tok
  blk_ext [idx t]

theorem emb_u (t : Fin grid0.N) (s : Fin 8) (a : Fin 1024) (b : Fin 128) :
    (win0_10.blk t).view.emb (ix3 s a b) = (ix3 s (tok t a) b : S8x32768x128.Idx) := by
  unfold tok
  blk_ext [idx t]

end Cert.Kernel4Ideal.Hand

end
-- ==== Proof.InProjEnd.lean ====
/-
  The output windows of the input projection end at the four whole arrays.
-/
module

public import proofs.«01_k».proof.Proof.InProjVal

@[expose] public section

set_option maxRecDepth 16384

noncomputable section

namespace Cert.Kernel4Ideal.Hand

open Cert.Kernel4Ideal Cert.Kernel4Ideal.Gen Cert.Layer
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem point_q (c : Dev nD) (t : Fin grid0.N) (y : S1024x1024.Idx) :
    out0_7 (iblk m c 0 t) (iblk m c 1 t) (iblk m c 2 t) (iblk m c 3 t) (iblk m c 4 t) (iblk m c 5 t) (iblk m c 6 t) y =
    qAll (m ((c : Thread nD τ).loc main_arg0)) (m ((c : Thread nD τ).loc main_arg1)) (m ((c : Thread nD τ).loc main_arg2)) (m ((c : Thread nD τ).loc main_arg3)) ((win0_7.blk t).view.emb y) := by
  obtain ⟨a, b, rfl⟩ : ∃ (a b : Fin 1024), y = ix2 a b := ⟨y 0, y 1, eq_ix2 y⟩
  refine (q_eq _ _ _ _ _ _ _ _).trans ((q_blk m c t a b).trans ?_)
  rw [emb_q]
  rfl

theorem final_q (c : Dev nD) : (dats m 0 c).arrAt 7 cfg0.N =
    qAll (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  exact point_q m c t y

theorem point_k (c : Dev nD) (t : Fin grid0.N) (y : S1024x128.Idx) :
    out0_8 (iblk m c 0 t) (iblk m c 1 t) (iblk m c 2 t) (iblk m c 3 t) (iblk m c 4 t) (iblk m c 5 t) (iblk m c 6 t) y =
    kAll (m ((c : Thread nD τ).loc main_arg0)) (m ((c : Thread nD τ).loc main_arg1)) (m ((c : Thread nD τ).loc main_arg2)) (m ((c : Thread nD τ).loc main_arg3)) ((win0_8.blk t).view.emb y) := by
  obtain ⟨a, b, rfl⟩ : ∃ (a : Fin 1024) (b : Fin 128), y = ix2 a b := ⟨y 0, y 1, eq_ix2 y⟩
  refine (k_eq _ _ _ _ _ _ _ _).trans ((k_blk m c t a b).trans ?_)
  rw [emb_k]
  rfl

theorem final_k (c : Dev nD) : (dats m 0 c).arrAt 8 cfg0.N =
    kAll (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  exact point_k m c t y

theorem point_v (c : Dev nD) (t : Fin grid0.N) (y : S128x1024.Idx) :
    out0_9 (iblk m c 0 t) (iblk m c 1 t) (iblk m c 2 t) (iblk m c 3 t) (iblk m c 4 t) (iblk m c 5 t) (iblk m c 6 t) y =
    vAll (m ((c : Thread nD τ).loc main_arg0)) (m ((c : Thread nD τ).loc main_arg2)) (m ((c : Thread nD τ).loc main_arg3)) ((win0_9.blk t).view.emb y) := by
  obtain ⟨a, b, rfl⟩ : ∃ (a : Fin 128) (b : Fin 1024), y = ix2 a b := ⟨y 0, y 1, eq_ix2 y⟩
  refine (v_eq _ _ _ _ _ _ _ _).trans ((v_blk m c t a b).trans ?_)
  rw [emb_v]
  rfl

theorem final_v (c : Dev nD) : (dats m 0 c).arrAt 9 cfg0.N =
    vAll (m ((c : Thread nD τ).loc main_arg0)) (m ((c : Thread nD τ).loc main_arg2)) (m ((c : Thread nD τ).loc main_arg3)) := by
  refine (dats m 0 c).arrAt_eq_of_covers 9 _ (by decide +kernel) fun t hf y => ?_
  blk_simp
  rw [after0_9]
  exact point_v m c t y

theorem point_u (c : Dev nD) (t : Fin grid0.N) (y : S8x1024x128.Idx) :
    out0_10 (iblk m c 0 t) (iblk m c 1 t) (iblk m c 2 t) (iblk m c 3 t) (iblk m c 4 t) (iblk m c 5 t) (iblk m c 6 t) y =
    uAll (m ((c : Thread nD τ).loc main_arg0)) (m ((c : Thread nD τ).loc main_arg2)) (m ((c : Thread nD τ).loc main_arg3)) ((win0_10.blk t).view.emb y) := by
  obtain ⟨s, a, b, rfl⟩ : ∃ (s : Fin 8) (a : Fin 1024) (b : Fin 128), y = ix3 s a b := ⟨y 0, y 1, y 2, eq_ix3 y⟩
  refine (u_eq _ _ _ _ _ _ _ _).trans ((u_blk m c t s a b).trans ?_)
  rw [emb_u]
  rfl

theorem final_u (c : Dev nD) : (dats m 0 c).arrAt 10 cfg0.N =
    uAll (m ((c : Thread nD τ).loc main_arg0)) (m ((c : Thread nD τ).loc main_arg2)) (m ((c : Thread nD τ).loc main_arg3)) := by
  refine (dats m 0 c).arrAt_eq_of_covers 10 _ (by decide +kernel) fun t hf y => ?_
  blk_simp
  rw [after0_10]
  exact point_u m c t y

end Cert.Kernel4Ideal.Hand

end
-- ==== Proof.InProjRef.lean ====
/-
  The reference's four results are the same four arrays.
-/
module

public import proofs.«01_k».proof.Proof.InProjVal
public import proofs.«01_k».proof.Proof.Gen.Reference4Ideal.Run

@[expose] public section

set_option maxRecDepth 16384

noncomputable section

namespace Cert.Reference4Ideal.Hand

open Cert.Reference4Ideal Cert.Reference4Ideal.Gen Cert.Layer
open Cert.Kernel4Ideal.Hand (projAt angleAt qAt kAt vAt uAt qAll kAll vAll uAll)
open Idealize.ShloMosaic Idealize.ShloMosaic.TcCoe Idealize.SL.Sem

/-- The projection with its bias over whole arrays. -/
def hostProj (x : FVec Ideal S16x2048x2048 .f32) (w : FVec Ideal S1x2048x3328 .f32) (b : FVec Ideal S1x3328 .f32) :
    FVec Ideal S16x2048x3328 .f32 :=
  addf (Host.dotGeneral dot_S16x2048x2048_S2048x3328_S16x2048x3328_2_0_01_1_n_n none x (shapeCast _ w shapeCasts_S1x2048x3328_S2048x3328))
    (broadcastInDim S16x2048x3328 ![0, 1, 2] bcast_S1x1x3328_S16x2048x3328_0_1_2
      (broadcastInDim S1x1x3328 ![2] bcast_S3328_S1x1x3328_2 (shapeCast _ b shapeCasts_S1x3328_S3328)))

theorem hostProj_apply (x : FVec Ideal S16x2048x2048 .f32) (w : FVec Ideal S1x2048x3328 .f32) (b : FVec Ideal S1x3328 .f32)
    (a : Fin 16) (t : Fin 2048) (n : Fin 3328) :
    hostProj x w b (ix3 a t n) = proj (fun k => x (ix3 a t k)) (fun k => w (ix3 0 k n)) (b (ix2 0 n)) := by
  unfold proj
  pointwise [hostProj]

/-- The angles over whole arrays. -/
def hostAngle (p : Vec Ideal S16x2048 .i32) : FVec Ideal S16x2048x32 .f32 :=
  mulf (broadcastInDim S16x2048x32 ![0, 1, 2] bcast_S16x2048x1_S16x2048x32_0_1_2
      (broadcastInDim S16x2048x1 ![0, 1] bcast_S16x2048_S16x2048x1_0_1 (sitofp .f32 p)))
    (broadcastInDim S16x2048x32 ![0, 1, 2] bcast_S1x1x32_S16x2048x32_0_1_2 (broadcastInDim S1x1x32 ![2] bcast_S32_S1x1x32_2
      (Host.divf (broadcastInDim S32 ![] bcast_S_S32 (constant S_ .f32 0x3F800000#32))
        (Host.powf (broadcastInDim S32 ![] bcast_S_S32 (constant S_ .f32 0x461C4000#32))
          (Host.divf (mulf (sitofp .f32 (iotaInDim S32 32 0)) (broadcastInDim S32 ![] bcast_S_S32 (constant S_ .f32 0x40000000#32)))
            (broadcastInDim S32 ![] bcast_S_S32 (constant S_ .f32 0x42800000#32)))))))

theorem hostAngle_apply (p : Vec Ideal S16x2048 .i32) (a : Fin 16) (b : Fin 2048) (j : Fin 32) :
    hostAngle p (ix3 a b j) = angle (freq j) (p (ix2 a b)) := by
  unfold angle freq
  rw [mul_comm]
  pointwise [hostAngle]

/-- The turn of the sixteen query heads over whole arrays. -/
def hostTurn16 (h : FVec Ideal S16x2048x16x64 .f32) (s : FVec Ideal S16x2048x32 .f32) : FVec Ideal S16x2048x16x64 .f32 :=
  concatenate S16x2048x16x64 3 [⟨S16x2048x16x32, (subf (mulf (extractStridedSlice S16x2048x16x32 ![0, 0, 0, 0] h slices_S16x2048x16x64_S16x2048x16x32_0_0_0_0)
        (broadcastInDim S16x2048x16x32 ![0, 1, 2, 3] bcast_S16x2048x1x32_S16x2048x16x32_0_1_2_3 (broadcastInDim S16x2048x1x32 ![0, 1, 3] bcast_S16x2048x32_S16x2048x1x32_0_1_3 (Host.cos s))))
      (mulf (extractStridedSlice S16x2048x16x32 ![0, 0, 0, 32] h slices_S16x2048x16x64_S16x2048x16x32_0_0_0_32)
        (broadcastInDim S16x2048x16x32 ![0, 1, 2, 3] bcast_S16x2048x1x32_S16x2048x16x32_0_1_2_3 (broadcastInDim S16x2048x1x32 ![0, 1, 3] bcast_S16x2048x32_S16x2048x1x32_0_1_3 (Host.sin s)))))⟩,
    ⟨S16x2048x16x32, (addf (mulf (extractStridedSlice S16x2048x16x32 ![0, 0, 0, 32] h slices_S16x2048x16x64_S16x2048x16x32_0_0_0_32)
        (broadcastInDim S16x2048x16x32 ![0, 1, 2, 3] bcast_S16x2048x1x32_S16x2048x16x32_0_1_2_3 (broadcastInDim S16x2048x1x32 ![0, 1, 3] bcast_S16x2048x32_S16x2048x1x32_0_1_3 (Host.cos s))))
      (mulf (extractStridedSlice S16x2048x16x32 ![0, 0, 0, 0] h slices_S16x2048x16x64_S16x2048x16x32_0_0_0_0)
        (broadcastInDim S16x2048x16x32 ![0, 1, 2, 3] bcast_S16x2048x1x32_S16x2048x16x32_0_1_2_3 (broadcastInDim S16x2048x1x32 ![0, 1, 3] bcast_S16x2048x32_S16x2048x1x32_0_1_3 (Host.sin s)))))⟩]
    concatenates_S16x2048x16x32_S16x2048x16x32_S16x2048x16x64_d3

theorem hostTurn16_apply (h : FVec Ideal S16x2048x16x64 .f32) (s : FVec Ideal S16x2048x32 .f32) (a : Fin 16) (b : Fin 2048) (e : Fin 16)
    (d : Fin 64) : hostTurn16 h s (ix4 a b e d) = turn (fun d => h (ix4 a b e d)) (fun j => s (ix3 a b j)) d := by
  unfold turn
  pointwise [hostTurn16]

/-- The turn of the two key heads over whole arrays. -/
def hostTurn2 (h : FVec Ideal S16x2048x2x64 .f32) (s : FVec Ideal S16x2048x32 .f32) : FVec Ideal S16x2048x2x64 .f32 :=
  concatenate S16x2048x2x64 3 [⟨S16x2048x2x32, (subf (mulf (extractStridedSlice S16x2048x2x32 ![0, 0, 0, 0] h slices_S16x2048x2x64_S16x2048x2x32_0_0_0_0)
        (broadcastInDim S16x2048x2x32 ![0, 1, 2, 3] bcast_S16x2048x1x32_S16x2048x2x32_0_1_2_3 (broadcastInDim S16x2048x1x32 ![0, 1, 3] bcast_S16x2048x32_S16x2048x1x32_0_1_3 (Host.cos s))))
      (mulf (extractStridedSlice S16x2048x2x32 ![0, 0, 0, 32] h slices_S16x2048x2x64_S16x2048x2x32_0_0_0_32)
        (broadcastInDim S16x2048x2x32 ![0, 1, 2, 3] bcast_S16x2048x1x32_S16x2048x2x32_0_1_2_3 (broadcastInDim S16x2048x1x32 ![0, 1, 3] bcast_S16x2048x32_S16x2048x1x32_0_1_3 (Host.sin s)))))⟩,
    ⟨S16x2048x2x32, (addf (mulf (extractStridedSlice S16x2048x2x32 ![0, 0, 0, 32] h slices_S16x2048x2x64_S16x2048x2x32_0_0_0_32)
        (broadcastInDim S16x2048x2x32 ![0, 1, 2, 3] bcast_S16x2048x1x32_S16x2048x2x32_0_1_2_3 (broadcastInDim S16x2048x1x32 ![0, 1, 3] bcast_S16x2048x32_S16x2048x1x32_0_1_3 (Host.cos s))))
      (mulf (extractStridedSlice S16x2048x2x32 ![0, 0, 0, 0] h slices_S16x2048x2x64_S16x2048x2x32_0_0_0_0)
        (broadcastInDim S16x2048x2x32 ![0, 1, 2, 3] bcast_S16x2048x1x32_S16x2048x2x32_0_1_2_3 (broadcastInDim S16x2048x1x32 ![0, 1, 3] bcast_S16x2048x32_S16x2048x1x32_0_1_3 (Host.sin s)))))⟩]
    concatenates_S16x2048x2x32_S16x2048x2x32_S16x2048x2x64_d3

theorem hostTurn2_apply (h : FVec Ideal S16x2048x2x64 .f32) (s : FVec Ideal S16x2048x32 .f32) (a : Fin 16) (b : Fin 2048) (e : Fin 2)
    (d : Fin 64) : hostTurn2 h s (ix4 a b e d) = turn (fun d => h (ix4 a b e d)) (fun j => s (ix3 a b j)) d := by
  unfold turn
  pointwise [hostTurn2]

theorem heads16 (h : FVec Ideal S16x2048x3328 .f32) (a : Fin 16) (b : Fin 2048) (e : Fin 16) (d : Fin 64) :
    shapeCast S16x2048x16x64 (extractStridedSlice S16x2048x1024 ![0, 0, 0] h slices_S16x2048x3328_S16x2048x1024_0_0_0)
      shapeCasts_S16x2048x1024_S16x2048x16x64 (ix4 a b e d) = h (ix3 a b ⟨64 * e.val + d.val, by omega⟩) := by
  pointwise
  try simp only [Nat.mul_comm]

/-- The queries over whole arrays. -/
def hostQ (h : FVec Ideal S16x2048x3328 .f32) (s : FVec Ideal S16x2048x32 .f32) : FVec Ideal S1024x32768 .bf16 :=
  truncf .bf16 (transpose S1024x32768 [1, 0] (shapeCast _ (mulf
      (hostTurn16 (shapeCast _ (extractStridedSlice S16x2048x1024 ![0, 0, 0] h slices_S16x2048x3328_S16x2048x1024_0_0_0)
        shapeCasts_S16x2048x1024_S16x2048x16x64) s)
      (broadcastInDim S16x2048x16x64 ![] bcast_S_S16x2048x16x64 (constant S_ .f32 0x3E000000#32))) shapeCasts_S16x2048x16x64_S32768x1024)
    transposes_S32768x1024_S1024x32768_1_0) bitsLt_bf16_f32

theorem hostQ_apply (h : FVec Ideal S16x2048x3328 .f32) (s : FVec Ideal S16x2048x32 .f32) (r : Fin 1024) (t : Fin 32768) :
    hostQ h s (ix2 r t) = turn (fun d => h (ix3 ⟨t.val / 2048, by omega⟩ ⟨t.val % 2048, by omega⟩ ⟨64 * (r.val / 64) + d.val, by omega⟩))
      (fun j => s (ix3 ⟨t.val / 2048, by omega⟩ ⟨t.val % 2048, by omega⟩ j)) ⟨r.val % 64, by omega⟩ * Ideal.ofBits .f32 0x3E000000#32 := by
  pointwise [hostQ]
  rw [hostTurn16_apply, funext fun d => heads16 h _ _ _ d]

theorem heads2 (h : FVec Ideal S16x2048x3328 .f32) (a : Fin 16) (b : Fin 2048) (e : Fin 2) (d : Fin 64) :
    shapeCast S16x2048x2x64 (extractStridedSlice S16x2048x128 ![0, 0, 1024] h slices_S16x2048x3328_S16x2048x128_0_0_1024)
      shapeCasts_S16x2048x128_S16x2048x2x64 (ix4 a b e d) = h (ix3 a b ⟨1024 + (64 * e.val + d.val), by omega⟩) := by
  pointwise
  try simp only [Nat.mul_comm]

/-- The keys over whole arrays. -/
def hostK (h : FVec Ideal S16x2048x3328 .f32) (s : FVec Ideal S16x2048x32 .f32) : FVec Ideal S32768x128 .bf16 :=
  truncf .bf16 (shapeCast _ (hostTurn2 (shapeCast _
      (extractStridedSlice S16x2048x128 ![0, 0, 1024] h slices_S16x2048x3328_S16x2048x128_0_0_1024) shapeCasts_S16x2048x128_S16x2048x2x64) s)
    shapeCasts_S16x2048x2x64_S32768x128) bitsLt_bf16_f32

theorem hostK_apply (h : FVec Ideal S16x2048x3328 .f32) (s : FVec Ideal S16x2048x32 .f32) (t : Fin 32768) (r : Fin 128) :
    hostK h s (ix2 t r) = turn (fun d => h (ix3 ⟨t.val / 2048, by omega⟩ ⟨t.val % 2048, by omega⟩ ⟨1024 + (64 * (r.val / 64) + d.val), by omega⟩))
      (fun j => s (ix3 ⟨t.val / 2048, by omega⟩ ⟨t.val % 2048, by omega⟩ j)) ⟨r.val % 64, by omega⟩ := by
  pointwise [hostK]
  rw [hostTurn2_apply, funext fun d => heads2 h _ _ _ d]

/-- The values over whole arrays. -/
def hostV (h : FVec Ideal S16x2048x3328 .f32) : FVec Ideal S128x32768 .bf16 :=
  truncf .bf16 (transpose S128x32768 [1, 0] (shapeCast _ (extractStridedSlice S16x2048x128 ![0, 0, 1152] h
    slices_S16x2048x3328_S16x2048x128_0_0_1152) shapeCasts_S16x2048x128_S32768x128) transposes_S32768x128_S128x32768_1_0) bitsLt_bf16_f32

theorem hostV_apply (h : FVec Ideal S16x2048x3328 .f32) (r : Fin 128) (t : Fin 32768) :
    hostV h (ix2 r t) = h (ix3 ⟨t.val / 2048, by omega⟩ ⟨t.val % 2048, by omega⟩ ⟨1152 + r.val, by omega⟩) := by
  pointwise [hostV]

/-- The gated half over whole arrays. -/
def hostU (h : FVec Ideal S16x2048x3328 .f32) : FVec Ideal S8x32768x128 .f32 :=
  transpose S8x32768x128 [1, 0, 2] (shapeCast _ (mulf
      (extractStridedSlice S16x2048x1024 ![0, 0, 1280] h slices_S16x2048x3328_S16x2048x1024_0_0_1280)
      (Host.divf (broadcastInDim S16x2048x1024 ![] bcast_S_S16x2048x1024 (constant S_ .f32 0x3F800000#32))
        (addf (broadcastInDim S16x2048x1024 ![] bcast_S_S16x2048x1024 (constant S_ .f32 0x3F800000#32))
          (Host.exp (Host.negf (extractStridedSlice S16x2048x1024 ![0, 0, 2304] h slices_S16x2048x3328_S16x2048x1024_0_0_2304))))))
    shapeCasts_S16x2048x1024_S32768x8x128) transposes_S32768x8x128_S8x32768x128_1_0_2

theorem hostU_apply (h : FVec Ideal S16x2048x3328 .f32) (s : Fin 8) (t : Fin 32768) (l : Fin 128) :
    hostU h (ix3 s t l) = gated (h (ix3 ⟨t.val / 2048, by omega⟩ ⟨t.val % 2048, by omega⟩ ⟨1280 + (128 * s.val + l.val), by omega⟩))
      (h (ix3 ⟨t.val / 2048, by omega⟩ ⟨t.val % 2048, by omega⟩ ⟨2304 + (128 * s.val + l.val), by omega⟩)) := by
  unfold gated Ideal.logistic
  pointwise [hostU]
  simp only [Nat.mul_comm]

variable (m : (ℓ : Loc nD τ sig) → Buf (Elt Ideal) ℓ)

theorem projRef (c : Dev nD) (t : Fin 32768) (n : Fin 3328) :
    (hostProj (m ((c.tc : Thread nD τ).loc main_arg0)) (m ((c.tc : Thread nD τ).loc main_arg2))
      (m ((c.tc : Thread nD τ).loc main_arg3))) (ix3 ⟨t.val / 2048, by omega⟩ ⟨t.val % 2048, by omega⟩ n) =
    projAt (m ((c.tc : Thread nD τ).loc main_arg0)) (m ((c.tc : Thread nD τ).loc main_arg2)) (m ((c.tc : Thread nD τ).loc main_arg3)) t n :=
  hostProj_apply _ _ _ _ _ _

theorem angleRef (c : Dev nD) (t : Fin 32768) (j : Fin 32) :
    hostAngle (m ((c.tc : Thread nD τ).loc main_arg1)) (ix3 ⟨t.val / 2048, by omega⟩ ⟨t.val % 2048, by omega⟩ j) = angleAt (m ((c.tc : Thread nD τ).loc main_arg1)) t j :=
  hostAngle_apply _ _ _ _

theorem res_q (c : Dev nD) : Value.res_out0 m c =
    qAll (m ((c.tc : Thread nD τ).loc main_arg0)) (m ((c.tc : Thread nD τ).loc main_arg1)) (m ((c.tc : Thread nD τ).loc main_arg2)) (m ((c.tc : Thread nD τ).loc main_arg3)) := by
  have e : Value.res_out0 m c = hostQ (hostProj (m ((c.tc : Thread nD τ).loc main_arg0)) (m ((c.tc : Thread nD τ).loc main_arg2))
      (m ((c.tc : Thread nD τ).loc main_arg3))) (hostAngle (m ((c.tc : Thread nD τ).loc main_arg1))) := rfl
  rw [e]
  funext i
  obtain ⟨r, t, rfl⟩ : ∃ (r : Fin 1024) (t : Fin 32768), i = ix2 r t := ⟨i 0, i 1, eq_ix2 i⟩
  rw [hostQ_apply, funext fun d : Fin 64 => projRef m c t ⟨64 * (r.val / 64) + d.val, by omega⟩, funext fun j => angleRef m c t j]
  rfl

theorem res_k (c : Dev nD) : Value.res_out1 m c =
    kAll (m ((c.tc : Thread nD τ).loc main_arg0)) (m ((c.tc : Thread nD τ).loc main_arg1)) (m ((c.tc : Thread nD τ).loc main_arg2)) (m ((c.tc : Thread nD τ).loc main_arg3)) := by
  have e : Value.res_out1 m c = hostK (hostProj (m ((c.tc : Thread nD τ).loc main_arg0)) (m ((c.tc : Thread nD τ).loc main_arg2))
      (m ((c.tc : Thread nD τ).loc main_arg3))) (hostAngle (m ((c.tc : Thread nD τ).loc main_arg1))) := rfl
  rw [e]
  funext i
  obtain ⟨t, r, rfl⟩ : ∃ (t : Fin 32768) (r : Fin 128), i = ix2 t r := ⟨i 0, i 1, eq_ix2 i⟩
  rw [hostK_apply, funext fun d : Fin 64 => projRef m c t ⟨1024 + (64 * (r.val / 64) + d.val), by omega⟩, funext fun j => angleRef m c t j]
  rfl

theorem res_v (c : Dev nD) : hostV (hostProj (m ((c.tc : Thread nD τ).loc main_arg0)) (m ((c.tc : Thread nD τ).loc main_arg2))
      (m ((c.tc : Thread nD τ).loc main_arg3))) =
    vAll (m ((c.tc : Thread nD τ).loc main_arg0)) (m ((c.tc : Thread nD τ).loc main_arg2)) (m ((c.tc : Thread nD τ).loc main_arg3)) := by
  funext i
  obtain ⟨r, t, rfl⟩ : ∃ (r : Fin 128) (t : Fin 32768), i = ix2 r t := ⟨i 0, i 1, eq_ix2 i⟩
  rw [hostV_apply, projRef]
  rfl

theorem res_u (c : Dev nD) : hostU (hostProj (m ((c.tc : Thread nD τ).loc main_arg0)) (m ((c.tc : Thread nD τ).loc main_arg2))
      (m ((c.tc : Thread nD τ).loc main_arg3))) =
    uAll (m ((c.tc : Thread nD τ).loc main_arg0)) (m ((c.tc : Thread nD τ).loc main_arg2)) (m ((c.tc : Thread nD τ).loc main_arg3)) := by
  funext i
  obtain ⟨s, t, l, rfl⟩ : ∃ (s : Fin 8) (t : Fin 32768) (l : Fin 128), i = ix3 s t l := ⟨i 0, i 1, i 2, eq_ix3 i⟩
  rw [hostU_apply, projRef, projRef]
  rfl

end Cert.Reference4Ideal.Hand

end
-- ==== Proof.AttnMath.lean ====
/-
  One query of sliding-window attention over the extended reals. Of a key of the query's own block and the key at the same place
  of the block before, exactly one lies in the window; folding the two blocks into one changes neither the maximum nor the sums,
  and a finite sink and scores below plus infinity make the sum of weights nonzero, so that dividing by it is multiplying by its
  reciprocal.
-/
module

public import Idealize.ShloMosaic.PureOps.Ideal
public import Idealize.ShloMosaic.Lib.IdealHost

@[expose] public section

noncomputable section

namespace Cert.Layer

open Idealize.ShloMosaic

/-- The greatest score, the sink among them. -/
def topOf {n : ℕ} (l : Fin n → EReal) (sk : EReal) : EReal := max (Finset.univ.fold max ⊥ l) sk

/-- The sum of the weights, the sink's among them. -/
def denOf {n : ℕ} (l : Fin n → EReal) (sk : EReal) : EReal :=
  (∑ k, Ideal.exp (l k - topOf l sk)) + Ideal.exp (sk - topOf l sk)

/-- The attended value: each value times its weight over the sum of the weights. -/
def attend (sc v : Fin 256 → EReal) (sk : EReal) : EReal :=
  ∑ s, v s * Ideal.div (Ideal.exp (sc s - topOf sc sk)) (denOf sc sk)

/-- The place of the key in the block before. -/
def lowKey (k : Fin 128) : Fin 256 := ⟨k, by omega⟩
/-- The place of the key in the query's own block. -/
def highKey (k : Fin 128) : Fin 256 := ⟨128 + k, by omega⟩

/-- The folded scores of a query: its own block's up to its place, the block before's after it. -/
def folded (q : Fin 128) (sc : Fin 256 → EReal) (k : Fin 128) : EReal := if k ≤ q then sc (highKey k) else sc (lowKey k)

/-- The folded weights of a query, unfolded over the 256 keys. -/
def spread (q : Fin 128) (p : Fin 128 → EReal) (s : Fin 256) : EReal :=
  if h : s.val < 128 then (if (⟨s, h⟩ : Fin 128) ≤ q then 0 else p ⟨s, h⟩)
  else (if (⟨s.val - 128, by omega⟩ : Fin 128) ≤ q then p ⟨s.val - 128, by omega⟩ else 0)

/-- A sum over the 256 keys, key by key of a block. -/
theorem sum_keys (f : Fin 256 → EReal) : ∑ s, f s = ∑ k, (f (lowKey k) + f (highKey k)) := by
  rw [Finset.sum_add_distrib]
  exact Fin.sum_univ_add (a := 128) (b := 128) f

theorem spread_low (q : Fin 128) (p : Fin 128 → EReal) (k : Fin 128) : spread q p (lowKey k) = if k ≤ q then 0 else p k := by
  unfold spread lowKey
  rw [dif_pos k.isLt]

theorem spread_high (q : Fin 128) (p : Fin 128 → EReal) (k : Fin 128) : spread q p (highKey k) = if k ≤ q then p k else 0 := by
  have h : ¬ (highKey k).val < 128 := by simp [highKey]
  have e : (⟨(highKey k).val - 128, by have := (highKey k).isLt; omega⟩ : Fin 128) = k := Fin.ext (by simp [highKey])
  unfold spread
  rw [dif_neg h, e]

theorem bot_sub (x : EReal) : (⊥ : EReal) - x = ⊥ := by rw [sub_eq_add_neg, EReal.bot_add]

variable {q : Fin 128} {sc : Fin 256 → EReal} (hlo : ∀ k, k ≤ q → sc (lowKey k) = ⊥) (hhi : ∀ k, ¬ k ≤ q → sc (highKey k) = ⊥)

include hlo hhi in
theorem fold_max : (Finset.univ.fold max ⊥ sc : EReal) = Finset.univ.fold max ⊥ (folded q sc) := by
  refine le_antisymm ?_ ?_
  · rw [Finset.fold_max_le]
    refine ⟨bot_le, fun s _ => ?_⟩
    have key : ∃ k, s = lowKey k ∨ s = highKey k := by
      by_cases h : s.val < 128
      · exact ⟨⟨s, h⟩, .inl rfl⟩
      · exact ⟨⟨s.val - 128, by omega⟩, .inr (Fin.ext (by simp [highKey]; omega))⟩
    obtain ⟨k, hk | hk⟩ := key <;> subst hk <;> by_cases h : k ≤ q
    · rw [hlo k h]; exact bot_le
    · exact (Finset.le_fold_max _).2 (.inr ⟨k, Finset.mem_univ _, by rw [folded, if_neg h]⟩)
    · exact (Finset.le_fold_max _).2 (.inr ⟨k, Finset.mem_univ _, by rw [folded, if_pos h]⟩)
    · rw [hhi k h]; exact bot_le
  · rw [Finset.fold_max_le]
    refine ⟨bot_le, fun k _ => ?_⟩
    unfold folded
    split
    · exact (Finset.le_fold_max _).2 (.inr ⟨_, Finset.mem_univ _, le_rfl⟩)
    · exact (Finset.le_fold_max _).2 (.inr ⟨_, Finset.mem_univ _, le_rfl⟩)

include hlo hhi in
theorem top_eq (sk : EReal) : topOf sc sk = topOf (folded q sc) sk := by
  unfold topOf; rw [fold_max hlo hhi]

include hlo hhi in
theorem den_eq (sk : EReal) : denOf sc sk = denOf (folded q sc) sk := by
  unfold denOf
  rw [← top_eq hlo hhi, sum_keys]
  refine congrArg (· + _) (Finset.sum_congr rfl fun k _ => ?_)
  unfold folded
  by_cases h : k ≤ q
  · rw [if_pos h, hlo k h, bot_sub, Ideal.exp_bot, zero_add]
  · rw [if_neg h, hhi k h, bot_sub, Ideal.exp_bot, add_zero]

theorem exp_nonneg (x : EReal) : 0 ≤ Ideal.exp x := by
  induction x with
  | bot => exact le_of_eq Ideal.exp_bot.symm
  | top => rw [Ideal.exp_top]; exact le_top
  | coe r => rw [Ideal.exp_coe]; exact EReal.coe_nonneg.2 (Real.exp_pos r).le

theorem exp_sub_self {x : EReal} (h : x ≠ ⊤) (h' : x ≠ ⊥) : Ideal.exp (x - x) = 1 := by
  rw [EReal.sub_self h h', ← EReal.coe_zero, Ideal.exp_coe, Real.exp_zero, EReal.coe_one]

/-- With a finite sink and no score at plus infinity the greatest of them is finite and its weight is one. -/
theorem den_ne_zero {n : ℕ} {l : Fin n → EReal} {sk : EReal} (hl : ∀ k, l k ≠ ⊤) (hs : sk ≠ ⊤) (hs' : sk ≠ ⊥) :
    denOf l sk ≠ 0 := by
  have one : (1 : EReal) ≤ denOf l sk := by
    rcases le_total (Finset.univ.fold max ⊥ l) sk with h | h
    · have e : topOf l sk = sk := max_eq_right h
      unfold denOf
      rw [e, exp_sub_self hs hs']
      exact le_add_of_nonneg_left (Finset.sum_nonneg fun k _ => exp_nonneg _)
    · have e : topOf l sk = Finset.univ.fold max ⊥ l := max_eq_left h
      have hm : ∃ k, l k = Finset.univ.fold max ⊥ l := by
        rcases (Finset.le_fold_max (s := Finset.univ) (f := l) (b := ⊥) (Finset.univ.fold max ⊥ l)).1 le_rfl with hb | ⟨k, -, hk⟩
        · exact absurd (le_bot_iff.1 (h.trans hb)) hs'
        · exact ⟨k, le_antisymm hk ((Finset.le_fold_max _).2 (.inr ⟨k, Finset.mem_univ _, le_rfl⟩)) |>.symm⟩
      obtain ⟨k, hk⟩ := hm
      have hb : l k ≠ ⊥ := fun hb => hs' (le_bot_iff.1 (h.trans (le_of_eq (hk.symm.trans hb))))
      unfold denOf
      rw [e, ← hk]
      calc (1 : EReal) = Ideal.exp (l k - l k) := (exp_sub_self (hl k) hb).symm
        _ ≤ ∑ k', Ideal.exp (l k' - l k) := Finset.single_le_sum (f := fun k' => Ideal.exp (l k' - l k)) (fun k' _ => exp_nonneg _) (Finset.mem_univ k)
        _ ≤ _ := le_add_of_nonneg_right (exp_nonneg _)
  intro h
  rw [h] at one
  exact absurd one (by simp)

include hlo hhi in
/-- Folded attention is attention. Where a key's score is masked away its value does not matter. -/
theorem attend_eq {v v' : Fin 256 → EReal} {sk : EReal} (hsc : ∀ s, sc s ≠ ⊤) (hs : sk ≠ ⊤) (hs' : sk ≠ ⊥)
    (hv : ∀ s, sc s = ⊥ ∨ v s = v' s) :
    attend sc v sk = ∑ s, v' s * spread q (fun k => Ideal.exp (folded q sc k - topOf (folded q sc) sk)
      * Ideal.div 1 (denOf (folded q sc) sk)) s := by
  have hd : denOf sc sk ≠ 0 := den_ne_zero hsc hs hs'
  unfold attend
  rw [sum_keys, sum_keys]
  refine Finset.sum_congr rfl fun k _ => ?_
  rw [spread_low, spread_high, ← top_eq hlo hhi, ← den_eq hlo hhi, Ideal.mul_one_div hd]
  have dead : ∀ s, sc s = ⊥ → Ideal.div (Ideal.exp (sc s - topOf sc sk)) (denOf sc sk) = 0 := fun s h => by
    rw [h, bot_sub, Ideal.exp_bot, Ideal.zero_div hd]
  have live : ∀ s, v s * Ideal.div (Ideal.exp (sc s - topOf sc sk)) (denOf sc sk)
      = v' s * Ideal.div (Ideal.exp (sc s - topOf sc sk)) (denOf sc sk) := fun s => by
    rcases hv s with h | h
    · rw [dead s h, mul_zero, mul_zero]
    · rw [h]
  rw [live, live]
  unfold folded
  by_cases h : k ≤ q
  · rw [if_pos h, if_pos h, if_pos h, dead _ (hlo k h)]
  · rw [if_neg h, if_neg h, if_neg h, dead _ (hhi k h)]

end Cert.Layer

end
-- ==== Proof.AttnSpec.lean ====
/-
  Sliding-window attention over whole arrays: 16 sequences of 16 blocks of 128 queries, two key heads with eight query heads each.
-/
module

public import proofs.«01_k».proof.Proof.AttnMath

@[expose] public section

noncomputable section

namespace Cert.Layer

open Idealize.ShloMosaic

/-- The row of a query: its sequence, its block, its place in the block. -/
def queryRow (b n : Fin 16) (q : Fin 128) : Fin 32768 := ⟨2048 * b + 128 * n + q, by omega⟩
/-- The row of one of the 256 keys that a block of queries sees: the block before and the block itself. -/
def keyRow (b n : Fin 16) (s : Fin 256) : Fin 32768 := ⟨2048 * b + 128 * n + s - 128, by omega⟩
/-- A key head's lane. -/
def keyLane (g : Fin 2) (d : Fin 64) : Fin 128 := ⟨64 * g + d, by omega⟩
/-- A query head's column. -/
def headCol (g : Fin 2) (e : Fin 8) (d : Fin 64) : Fin 1024 := ⟨512 * g + 64 * e + d, by omega⟩
def headOf (g : Fin 2) (e : Fin 8) : Fin 16 := ⟨8 * g + e, by omega⟩

/-- The key is in the query's window: at most 127 before it and not after it, and in the same sequence. -/
def seen (n : Fin 16) (q : Fin 128) (s : Fin 256) : Prop :=
  (q.val < s.val ∧ s.val ≤ q.val + 128) ∧ (n.val = 0 → 128 ≤ s.val)

instance (n : Fin 16) (q : Fin 128) (s : Fin 256) : Decidable (seen n q s) := by unfold seen; infer_instance

/-- A query's score against one of its 256 keys. -/
def score (Q : Fin 1024 → Fin 32768 → EReal) (K : Fin 32768 → Fin 128 → EReal) (b n : Fin 16) (g : Fin 2) (e : Fin 8) (q : Fin 128)
    (s : Fin 256) : EReal :=
  if seen n q s then ∑ d : Fin 64, K (keyRow b n s) (keyLane g d) * Q (headCol g e d) (queryRow b n q) else ⊥

/-- A value of one of the 256 keys, zero before the sequence starts. -/
def value (V : Fin 128 → Fin 32768 → EReal) (b n : Fin 16) (g : Fin 2) (d : Fin 64) (s : Fin 256) : EReal :=
  if n.val = 0 ∧ s.val < 128 then 0 else V (keyLane g d) (keyRow b n s)

/-- One entry of the attention. -/
def cell (S : Fin 16 → EReal) (Q : Fin 1024 → Fin 32768 → EReal) (K : Fin 32768 → Fin 128 → EReal) (V : Fin 128 → Fin 32768 → EReal)
    (b n : Fin 16) (q : Fin 128) (g : Fin 2) (e : Fin 8) (d : Fin 64) : EReal :=
  attend (score Q K b n g e q) (value V b n g d) (S (headOf g e))

/-- The entry at a row and a column. -/
def entry (S : Fin 16 → EReal) (Q : Fin 1024 → Fin 32768 → EReal) (K : Fin 32768 → Fin 128 → EReal) (V : Fin 128 → Fin 32768 → EReal)
    (r : Fin 32768) (c : Fin 1024) : EReal :=
  cell S Q K V ⟨r / 2048, by omega⟩ ⟨r / 128 % 16, by omega⟩ ⟨r % 128, by omega⟩ ⟨c / 512, by omega⟩ ⟨c / 64 % 8, by omega⟩
    ⟨c % 64, by omega⟩

end Cert.Layer

end
-- ==== Proof.AttnHead.lean ====
/-
  What the attention body computes for one block of 128 queries and one pair of heads, in named steps.
-/
module

public import proofs.«01_k».proof.Proof.Gen.KernelIdeal
public import proofs.«01_k».proof.Proof.AttnMath
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem

/-- A key lies in the query's own block at or before it: row (key) at most column (query). -/
def own : IVec S128x128 1 :=
  cmpi .sle (iota .tc S128x128 32 [0] iota_S128x128_d0_w32) (iota .tc S128x128 32 [1] iota_S128x128_d1_w32)

def noQ : FVec Ideal S64x256 .bf16 := broadcast S64x256 (Scalar.ofBits .bf16 0x0000#16)

/-- The two heads' queries side by side over the key head they use, zeros over the other. -/
def queries (lo : Bool) (qa qb : Vec Ideal S64x128 .bf16) : FVec Ideal S128x256 .bf16 :=
  let q2 : FVec Ideal S64x256 .bf16 := concatenate S64x256 1 [⟨S64x128, qa⟩, ⟨S64x128, qb⟩] concatenates_S64x128_S64x128_S64x256_d1
  match lo with
  | true => concatenate S128x256 0 [⟨S64x256, q2⟩, ⟨S64x256, noQ⟩] concatenates_S64x256_S64x256_S128x256_d0
  | false => concatenate S128x256 0 [⟨S64x256, noQ⟩, ⟨S64x256, q2⟩] concatenates_S64x256_S64x256_S128x256_d0

/-- The scores of two heads: 256 keys by two times 128 queries. -/
def scores (lo : Bool) (kwin : Vec Ideal S256x128 .bf16) (qa qb : Vec Ideal S64x128 .bf16) : FVec Ideal S256x256 .f32 :=
  matmul (φ₁ := .bf16) (dot_S256x128_S128x256_S256x256_1_0_0_1_n_n) none kwin (queries lo qa qb) (constant S256x256 .f32 0x00000000#32)

def scoresA (s : FVec Ideal S256x256 .f32) : FVec Ideal S256x128 .f32 :=
  extractStridedSlice S256x128 ![0, 0] s slices_S256x256_o0_0_S256x128

def scoresB (s : FVec Ideal S256x256 .f32) : FVec Ideal S256x128 .f32 :=
  extractStridedSlice S256x128 ![0, 128] s slices_S256x256_o0_128_S256x128

/-- The scores of the previous block, masked away in the first block of the tile unless the tile has one before it. -/
def before (first : Bool) (a : BitVec 32) (s : FVec Ideal S256x128 .f32) : FVec Ideal S128x128 .f32 :=
  match first with
  | true => Scalar.select (Scalar.cmpi .sgt a 0#32) (extractStridedSlice S128x128 ![0, 0] s slices_S256x128_o0_0_S128x128)
      (broadcast S128x128 (Scalar.ofBits .f32 0xFF800000#32 : Ideal .f32))
  | false => extractStridedSlice S128x128 ![0, 0] s slices_S256x128_o0_0_S128x128

/-- One head's folded scores: at each place the one of the two blocks that lies in the query's window. -/
def fold (first : Bool) (a : BitVec 32) (s : FVec Ideal S256x128 .f32) : FVec Ideal S128x128 .f32 :=
  select own (extractStridedSlice S128x128 ![128, 0] s slices_S256x128_o128_0_S128x128) (before first a s)

/-- The column maximum with the sink. -/
def top (l : FVec Ideal S128x128 .f32) (sk : Elt Ideal .f32) : FVec Ideal S1x128 .f32 :=
  maximumf (shapeCast S1x128 (multiReduction .maximumf [0] S128 l 0xFF800000#32 reduces_S128x128_S128 (.inl rfl) rfl)
    shapeCasts_S128_S1x128) (broadcast S1x128 sk)

def expo (l : FVec Ideal S128x128 .f32) (t : FVec Ideal S1x128 .f32) : FVec Ideal S128x128 .f32 :=
  exp (subf l (broadcastTo S128x128 t broadcasts_S1x128_S128x128))

/-- One over the sum of the weights, the sink's among them. -/
def inv (w : FVec Ideal S128x128 .f32) (t : FVec Ideal S1x128 .f32) (sk : Elt Ideal .f32) : FVec Ideal S1x128 .f32 :=
  divf (broadcast S1x128 (Scalar.ofBits .f32 0x3F800000#32 : Ideal .f32))
    (addf (shapeCast S1x128 (multiReduction .add [0] S128 w 0x00000000#32 reduces_S128x128_S128 (.inl rfl) rfl) shapeCasts_S128_S1x128)
      (exp (subf (broadcast S1x128 sk) t)))

/-- The probabilities unfolded again over the 256 keys. -/
def probs (w : FVec Ideal S128x128 .f32) (v : FVec Ideal S1x128 .f32) : FVec Ideal S256x128 .bf16 :=
  let p : FVec Ideal S128x128 .bf16 := truncf .bf16 (mulf w (broadcastTo S128x128 v broadcasts_S1x128_S128x128)) bitsLt_bf16_f32
  concatenate S256x128 0 [⟨S128x128, (select own (broadcast S128x128 (Scalar.ofBits .bf16 0x0000#16)) p : FVec Ideal S128x128 .bf16)⟩,
    ⟨S128x128, (select own p (broadcast S128x128 (Scalar.ofBits .bf16 0x0000#16)) : FVec Ideal S128x128 .bf16)⟩]
    concatenates_S128x128_S128x128_S256x128_d0

/-- One head's probabilities from its scores and its sink. -/
def head (first : Bool) (a : BitVec 32) (s : FVec Ideal S256x128 .f32) (sk : Elt Ideal .f32) : FVec Ideal S256x128 .bf16 :=
  probs (expo (fold first a s) (top (fold first a s) sk))
    (inv (expo (fold first a s) (top (fold first a s) sk)) (top (fold first a s) sk) sk)

def values (lo : Bool) (vwin : Vec Ideal S128x256 .bf16) : FVec Ideal S64x256 .bf16 :=
  match lo with
  | true => extractStridedSlice S64x256 ![0, 0] vwin slices_S128x256_o0_0_S64x256
  | false => extractStridedSlice S64x256 ![64, 0] vwin slices_S128x256_o64_0_S64x256

/-- The two heads' outputs, queries down and the two heads' 64 columns across. -/
def mix (v : FVec Ideal S64x256 .bf16) (pa pb : FVec Ideal S256x128 .bf16) : FVec Ideal S128x128 .bf16 :=
  let o : FVec Ideal S64x256 .f32 := matmul (dot_S64x256_S256x256_S64x256_1_0_0_1_n_n) none v
    (concatenate S256x256 1 [⟨S256x128, pa⟩, ⟨S256x128, pb⟩] concatenates_S256x128_S256x128_S256x256_d1) (constant S64x256 .f32 0x00000000#32)
  truncf .bf16 (transpose S128x128 [1, 0] (concatenate S128x128 0
    [⟨S64x128, extractStridedSlice S64x128 ![0, 0] o slices_S64x256_o0_0_S64x128⟩,
      ⟨S64x128, extractStridedSlice S64x128 ![0, 128] o slices_S64x256_o0_128_S64x128⟩] concatenates_S64x128_S64x128_S128x128_d0)
    transposes_S128x128_p1_0_S128x128) bitsLt_bf16_f32

/-- What the body writes for one block of queries and one pair of heads. -/
def headPair (lo first : Bool) (a : BitVec 32) (kwin : Vec Ideal S256x128 .bf16) (qa qb : Vec Ideal S64x128 .bf16)
    (vwin : Vec Ideal S128x256 .bf16) (ska skb : Elt Ideal .f32) : FVec Ideal S128x128 .bf16 :=
  mix (values lo vwin) (head first a (scoresA (scores lo kwin qa qb)) ska) (head first a (scoresB (scores lo kwin qa qb)) skb)

end Cert.KernelIdeal.Hand

end
-- ==== Proof.AttnVal.lean ====
/-
  One head's probabilities and outputs, index by index.
-/
module

public import proofs.«01_k».proof.Proof.AttnHead
public import Idealize.ShloMosaic.Lib.WordCmp

@[expose] public section

set_option maxRecDepth 16384

noncomputable section

namespace Cert.KernelIdeal.Hand

open Cert.KernelIdeal Cert.KernelIdeal.Gen Cert.Layer
open Idealize.ShloMosaic Idealize.ShloMosaic.TcCoe Idealize.SL.Sem

/-- The lane of a head's key and value: the first 64 lanes are one key head's, the last 64 the other's. -/
def lane (lo : Bool) (d : Fin 64) : Fin 128 := if lo then ⟨d, by omega⟩ else ⟨64 + d, by omega⟩

/-- Choosing by a comparison of two small numbers as words is choosing by their order. -/
theorem select_le {α : Type} (k q : ℕ) (hk : k < 2 ^ 31) (hq : q < 2 ^ 31) (a b : α) :
    Scalar.select (IntOp.cmpi CmpIPredicate.sle (BitVec.ofNat 32 k) (BitVec.ofNat 32 q)) a b = if k ≤ q then a else b := by
  unfold Scalar.select
  rw [show IntOp.cmpi CmpIPredicate.sle (BitVec.ofNat 32 k) (BitVec.ofNat 32 q)
    = BitVec.ofBool (decide ((BitVec.ofNat 32 k).toInt ≤ (BitVec.ofNat 32 q).toInt)) from rfl, WordCmp.toInt_ofNat_of_lt hk, WordCmp.toInt_ofNat_of_lt hq]
  by_cases h : k ≤ q <;> simp [h]

theorem ofBits_negInf : Ideal.ofBits .f32 0xFF800000#32 = ⊥ := by
  simp [Ideal.ofBits, Ideal.ieee]

theorem select_own (a b : FVec Ideal S128x128 .f32) (k q : Fin 128) :
    select own a b (ix2 k q) = if k ≤ q then a (ix2 k q) else b (ix2 k q) := by
  pointwise [own]
  exact select_le _ _ (by omega) (by omega) _ _

theorem scoresA_apply (lo : Bool) (kwin : Vec Ideal S256x128 .bf16) (qa qb : Vec Ideal S64x128 .bf16) (s : Fin 256) (q : Fin 128) :
    scoresA (scores lo kwin qa qb) (ix2 s q) = ∑ d : Fin 64, kwin (ix2 s (lane lo d)) * qa (ix2 d q) := by
  cases lo
  · pointwise [scoresA, scores, queries, noQ]
    simp [lane]
  · pointwise [scoresA, scores, queries, noQ]
    simp [lane]

theorem scoresB_apply (lo : Bool) (kwin : Vec Ideal S256x128 .bf16) (qa qb : Vec Ideal S64x128 .bf16) (s : Fin 256) (q : Fin 128) :
    scoresB (scores lo kwin qa qb) (ix2 s q) = ∑ d : Fin 64, kwin (ix2 s (lane lo d)) * qb (ix2 d q) := by
  cases lo
  · pointwise [scoresB, scores, queries, noQ]
    simp [lane]
  · pointwise [scoresB, scores, queries, noQ]
    simp [lane]

theorem values_apply (lo : Bool) (v : Vec Ideal S128x256 .bf16) (d : Fin 64) (s : Fin 256) :
    values lo v (ix2 d s) = v (ix2 (lane lo d) s) := by
  cases lo
  · pointwise [values]
    simp [lane]
  · pointwise [values]
    simp [lane]

/-- The masked scores of one query over the 256 keys: those outside its window are minus infinity, and so are the block before's
    when there is none. -/
def masked (none : Bool) (s : FVec Ideal S256x128 .f32) (q : Fin 128) (k : Fin 256) : EReal :=
  if (q.val < k.val ∧ k.val ≤ q.val + 128) ∧ (none = true → 128 ≤ k.val) then s (ix2 k q) else ⊥

theorem masked_low (none : Bool) (s : FVec Ideal S256x128 .f32) (q k : Fin 128) (h : k ≤ q) : masked none s q (lowKey k) = ⊥ :=
  if_neg fun h' => absurd h'.1.1 (by simpa [lowKey] using h)

theorem masked_high (none : Bool) (s : FVec Ideal S256x128 .f32) (q k : Fin 128) (h : ¬ k ≤ q) : masked none s q (highKey k) = ⊥ :=
  if_neg fun h' => absurd h'.1.2 (by simp [highKey]; omega)

theorem fold_apply (first : Bool) (s : FVec Ideal S256x128 .f32) (k q : Fin 128) :
    fold first 0#32 s (ix2 k q) = folded q (masked first s q) k := by
  rw [fold, select_own]
  unfold folded masked
  by_cases h : k ≤ q
  · rw [if_pos h, if_pos h, if_pos ⟨⟨by simp [highKey]; omega, by simp [highKey]; omega⟩, fun _ => by simp [highKey]⟩]
    pointwise []
    rfl
  · rw [if_neg h, if_neg h]
    cases first
    · rw [if_pos ⟨⟨by simpa [lowKey] using h, by simp [lowKey]; omega⟩, fun h => by simp at h⟩]
      pointwise [before]
      rfl
    · rw [if_neg fun h' => by have := h'.2 rfl; simp [lowKey] at this; omega]
      show Ideal.ofBits .f32 0xFF800000#32 = ⊥
      exact ofBits_negInf

theorem top_apply (l : FVec Ideal S128x128 .f32) (sk : Elt Ideal .f32) (q : Fin 128) :
    top l sk (ix2 0 q) = topOf (fun k => l (ix2 k q)) sk := by
  unfold topOf
  pointwise [top]
  rw [ofBits_negInf]

theorem inv_apply (l : FVec Ideal S128x128 .f32) (t : FVec Ideal S1x128 .f32) (sk : Elt Ideal .f32) (q : Fin 128) :
    inv (expo l t) t sk (ix2 0 q) = Ideal.div 1 ((∑ k, Ideal.exp (l (ix2 k q) - t (ix2 0 q))) + Ideal.exp (sk - t (ix2 0 q))) := by
  pointwise [inv, expo]

theorem expo_apply (l : FVec Ideal S128x128 .f32) (t : FVec Ideal S1x128 .f32) (k q : Fin 128) :
    expo l t (ix2 k q) = Ideal.exp (l (ix2 k q) - t (ix2 0 q)) := by
  pointwise [expo]

theorem probs_apply (w : FVec Ideal S128x128 .f32) (v : FVec Ideal S1x128 .f32) (s : Fin 256) (q : Fin 128) :
    probs w v (ix2 s q) = spread q (fun k => w (ix2 k q) * v (ix2 0 q)) s := by
  unfold spread
  pointwise [probs, own]
  simp only [select_le _ _ (show s.val < 2 ^ 31 by omega) (show q.val < 2 ^ 31 by omega),
    select_le _ _ (show s.val - 128 < 2 ^ 31 by omega) (show q.val < 2 ^ 31 by omega), Fin.le_def]

theorem head_apply (first : Bool) (s : FVec Ideal S256x128 .f32) (sk : Elt Ideal .f32) (k : Fin 256) (q : Fin 128) :
    head first 0#32 s sk (ix2 k q) = spread q (fun k => Ideal.exp (folded q (masked first s q) k - topOf (folded q (masked first s q)) sk)
      * Ideal.div 1 (denOf (folded q (masked first s q)) sk)) k := by
  rw [head, probs_apply]
  simp only [expo_apply, inv_apply, top_apply, fold_apply]
  rfl

theorem mix_apply (v : FVec Ideal S64x256 .bf16) (pa pb : FVec Ideal S256x128 .bf16) (q l : Fin 128) :
    mix v pa pb (ix2 q l) = ∑ s : Fin 256, v (ix2 ⟨l.val % 64, by omega⟩ s) * (if l.val < 64 then pa else pb) (ix2 s q) := by
  pointwise [mix]
  by_cases h : l.val < 64
  · simp only [h, if_true, dif_pos, Nat.mod_eq_of_lt h]
  · simp only [h, if_false, dif_neg, not_false_eq_true, show l.val % 64 = l.val - 64 by omega]

/-- One head's block: attention over the window, for scores below plus infinity and a finite sink. The values need only agree where
    the score is not masked away. -/
theorem headPair_apply (lo first : Bool) (kwin : Vec Ideal S256x128 .bf16) (qa qb : Vec Ideal S64x128 .bf16)
    (vwin : Vec Ideal S128x256 .bf16) (ska skb : Elt Ideal .f32) (q l : Fin 128) (sc v : Fin 256 → EReal) (sk : EReal)
    (hsc : ∀ k, sc k = if (q.val < k.val ∧ k.val ≤ q.val + 128) ∧ (first = true → 128 ≤ k.val) then
      ∑ d : Fin 64, kwin (ix2 k (lane lo d)) * (if l.val < 64 then qa else qb) (ix2 d q) else ⊥)
    (hv : ∀ k, sc k = ⊥ ∨ v k = vwin (ix2 (lane lo ⟨l.val % 64, by omega⟩) k))
    (hk : (if l.val < 64 then ska else skb) = sk)
    (top : ∀ k, sc k ≠ ⊤) (hs : sk ≠ ⊤) (hs' : sk ≠ ⊥) :
    headPair lo first 0#32 kwin qa qb vwin ska skb (ix2 q l) = attend sc v sk := by
  subst hk
  have lo' : ∀ k, k ≤ q → sc (lowKey k) = ⊥ := fun k h => by
    rw [hsc]; exact if_neg fun h' => absurd h'.1.1 (by simpa [lowKey] using h)
  have hi' : ∀ k, ¬ k ≤ q → sc (highKey k) = ⊥ := fun k h => by
    rw [hsc]; exact if_neg fun h' => absurd h'.1.2 (by simp [highKey]; omega)
  rw [attend_eq lo' hi' top hs hs' hv, headPair, mix_apply]
  refine Finset.sum_congr rfl fun s _ => ?_
  rw [values_apply]
  refine congrArg (_ * ·) ?_
  by_cases h : l.val < 64
  · simp only [h, if_true] at hsc ⊢
    rw [head_apply, show masked first (scoresA (scores lo kwin qa qb)) q = sc from funext fun k => by rw [hsc, masked, scoresA_apply]]
  · simp only [h, if_false] at hsc ⊢
    rw [head_apply, show masked first (scoresB (scores lo kwin qa qb)) q = sc from funext fun k => by rw [hsc, masked, scoresB_apply]]

end Cert.KernelIdeal.Hand

end
-- ==== Proof.AttnPieces.lean ====
/-
  The attention body's stores: 16 blocks of 128 queries by 8 pairs of heads, each written as one function of the block and the pair.
-/
module

public import proofs.«01_k».proof.Proof.Gen.KernelIdeal.Value
public import proofs.«01_k».proof.Proof.AttnHead
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

theorem inO (j : Fin 16) (p : Fin 8) : ∀ a, (![128 * j.val, 128 * p.val] : Fin 2 → Nat) a + S128x128.size a ≤ S2048x1024.size a := by
  decide +revert
theorem inK (j : Fin 16) : ∀ a, (![128 * j.val, 0] : Fin 2 → Nat) a + S256x128.size a ≤ S2176x128.size a := by decide +revert
theorem inV (j : Fin 16) : ∀ a, (![0, 128 * j.val] : Fin 2 → Nat) a + S128x256.size a ≤ S128x2176.size a := by decide +revert
theorem inQa (j : Fin 16) (p : Fin 8) : ∀ a, (![128 * p.val, 128 * j.val] : Fin 2 → Nat) a + S64x128.size a ≤ S1024x2048.size a := by
  decide +revert
theorem inQb (j : Fin 16) (p : Fin 8) : ∀ a, (![128 * p.val + 64, 128 * j.val] : Fin 2 → Nat) a + S64x128.size a ≤ S1024x2048.size a := by
  decide +revert
theorem inSa (p : Fin 8) : ∀ a, (![2 * p.val] : Fin 1 → Nat) a + S1.size a ≤ S16.size a := by decide +revert
theorem inSb (p : Fin 8) : ∀ a, (![2 * p.val + 1] : Fin 1 → Nat) a + S1.size a ≤ S16.size a := by decide +revert

section

variable (t : Fin cfg0.N) (x0 : Vec Ideal S16 .f32) (x1 : Vec Ideal S1024x2048 .bf16) (x2 : Vec Ideal S2048x128 .bf16)
  (x3 : Vec Ideal S128x128 .bf16) (x4 : Vec Ideal S128x2048 .bf16) (x5 : Vec Ideal S128x128 .bf16)

/-- The keys of the previous block and of the tile, as the body lays them out. -/
def keyPieces : List (View.Piece (Elt Ideal) S2176x128 .bf16) :=
  [⟨Rect.unit (s := S2176x128) ![128, 0] S2048x128.size inb_S2176x128_S2048x128_128_0, (shapeCast S2048x128
      ((ms0_2 t).view.readAt (Elt Ideal) (Rect.unit (s := S2048x128) ![0, 0] S2048x128.size inb_S2048x128_S2048x128_0_0).toLoadRect ((hs0_2 t).unread x2))
      shapeCasts_S2048x128_S2048x128 : Vec Ideal S2048x128 .bf16)⟩,
    ⟨Rect.unit (s := S2176x128) ![0, 0] S128x128.size inb_S2176x128_S128x128_0_0, (shapeCast S128x128
      ((ms0_3 t).view.readAt (Elt Ideal) (Rect.unit (s := S128x128) ![0, 0] S128x128.size inb_S128x128_S128x128_0_0).toLoadRect ((hs0_3 t).unread x3))
      shapeCasts_S128x128_S128x128 : Vec Ideal S128x128 .bf16)⟩]

/-- The values of the previous block and of the tile, as the body lays them out. -/
def valPieces : List (View.Piece (Elt Ideal) S128x2176 .bf16) :=
  [⟨Rect.unit (s := S128x2176) ![0, 128] S128x2048.size inb_S128x2176_S128x2048_0_128, (shapeCast S128x2048
      ((ms0_4 t).view.readAt (Elt Ideal) (Rect.unit (s := S128x2048) ![0, 0] S128x2048.size inb_S128x2048_S128x2048_0_0).toLoadRect ((hs0_4 t).unread x4))
      shapeCasts_S128x2048_S128x2048 : Vec Ideal S128x2048 .bf16)⟩,
    ⟨Rect.unit (s := S128x2176) ![0, 0] S128x128.size inb_S128x2176_S128x128_0_0, (shapeCast S128x128
      ((ms0_5 t).view.readAt (Elt Ideal) (Rect.unit (s := S128x128) ![0, 0] S128x128.size inb_S128x128_S128x128_0_0).toLoadRect ((hs0_5 t).unread x5))
      shapeCasts_S128x128_S128x128 : Vec Ideal S128x128 .bf16)⟩]

def kwinOf (j : Fin 16) : Vec Ideal S256x128 .bf16 :=
  scM0_0.view.readCov (keyPieces t x2 x3) (Rect.unit (s := S2176x128) ![128 * j.val, 0] S256x128.size (inK j)).toLoadRect

def vwinOf (j : Fin 16) : Vec Ideal S128x256 .bf16 :=
  scM0_1.view.readCov (valPieces t x4 x5) (Rect.unit (s := S128x2176) ![0, 128 * j.val] S128x256.size (inV j)).toLoadRect

def qaOf (j : Fin 16) (p : Fin 8) : Vec Ideal S64x128 .bf16 :=
  (ms0_1 t).view.readAt (Elt Ideal) (Rect.unit (s := S1024x2048) ![128 * p.val, 128 * j.val] S64x128.size (inQa j p)).toLoadRect ((hs0_1 t).unread x1)

def qbOf (j : Fin 16) (p : Fin 8) : Vec Ideal S64x128 .bf16 :=
  (ms0_1 t).view.readAt (Elt Ideal) (Rect.unit (s := S1024x2048) ![128 * p.val + 64, 128 * j.val] S64x128.size (inQb j p)).toLoadRect ((hs0_1 t).unread x1)

def saOf (p : Fin 8) : Elt Ideal .f32 :=
  (ms0_0 t).view.readAt (Elt Ideal) (Rect.unit (s := S16) ![2 * p.val] S1.size (inSa p)).toLoadRect ((hs0_0 t).unread x0) (Shape.Idx.first (s := S1) (by decide))

def sbOf (p : Fin 8) : Elt Ideal .f32 :=
  (ms0_0 t).view.readAt (Elt Ideal) (Rect.unit (s := S16) ![2 * p.val + 1] S1.size (inSb p)).toLoadRect ((hs0_0 t).unread x0) (Shape.Idx.first (s := S1) (by decide))

/-- One store of the body. -/
def piece (j : Fin 16) (p : Fin 8) : View.Piece (Elt Ideal) S2048x1024 .bf16 :=
  ⟨Rect.unit (s := S2048x1024) ![128 * j.val, 128 * p.val] S128x128.size (inO j p),
    headPair (decide (p.val < 4)) (decide (j.val = 0)) (BitVec.ofNat 32 (grid0.coords t 1).val) (kwinOf t x2 x3 j) (qaOf t x1 j p)
      (qbOf t x1 j p) (vwinOf t x4 x5 j) (saOf t x0 p) (sbOf t x0 p)⟩

/-- The stores of one block of queries, last first. -/
def row (j : Fin 16) (rest : List (View.Piece (Elt Ideal) S2048x1024 .bf16)) : List (View.Piece (Elt Ideal) S2048x1024 .bf16) :=
  let g := piece t x0 x1 x2 x3 x4 x5 j
  g 7 :: g 6 :: g 5 :: g 4 :: g 3 :: g 2 :: g 1 :: g 0 :: rest

/-- All the stores, last first. -/
def pieces : List (View.Piece (Elt Ideal) S2048x1024 .bf16) :=
  let r := row t x0 x1 x2 x3 x4 x5
  r 15 (r 14 (r 13 (r 12 (r 11 (r 10 (r 9 (r 8 (r 7 (r 6 (r 5 (r 4 (r 3 (r 2 (r 1 (r 0 [])))))))))))))))

variable (c : Dev nD) (x6 : Vec Ideal S64x1024 .f32) (x7 : Vec Ideal S128x2048 .f32) (x8 x9 : Vec Ideal S128x5632 .f32)
  (x10 : Vec Ideal S352x2048 .f32)

/-- The body's run at a grid point. -/
abbrev runAt :=
  kernelRun0_A c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t)
    (hs0_16 t) scM0_0 (Memref.isWhole_whole _) scM0_1 (Memref.isWhole_whole _) x0 x1 x2 x3 x4 x5 x6 x7 x8 x9 x10

/-- The run's stores are those. -/
theorem run_pieces : (runAt t x0 x1 x2 x3 x4 x5 c x6 x7 x8 x9 x10).1 = pieces t x0 x1 x2 x3 x4 x5 := by
  sl_kernel_rfl

end

end Cert.KernelIdeal.Hand

end
-- ==== Proof.AttnOut.lean ====
/-
  The attention's result array: every entry is sliding-window attention of the arguments, when sinks, queries and keys are finite.
-/
module

public import proofs.«01_k».proof.Proof.AttnSpec
public import proofs.«01_k».proof.Proof.AttnVal
public import proofs.«01_k».proof.Proof.AttnPieces
public import Idealize.ShloMosaic.Lib.WholeRead

@[expose] public section

set_option maxRecDepth 16384

noncomputable section

namespace Cert.Layer

open Idealize.ShloMosaic

/-- Neither of the two infinities. -/
def Finite (x : EReal) : Prop := x ≠ ⊤ ∧ x ≠ ⊥

theorem Finite.mul {x y : EReal} (hx : Finite x) (hy : Finite y) : Finite (x * y) := by
  rw [← EReal.coe_toReal hx.1 hx.2, ← EReal.coe_toReal hy.1 hy.2, ← EReal.coe_mul]
  exact ⟨EReal.coe_ne_top _, EReal.coe_ne_bot _⟩

theorem Finite.add {x y : EReal} (hx : Finite x) (hy : Finite y) : Finite (x + y) := by
  rw [← EReal.coe_toReal hx.1 hx.2, ← EReal.coe_toReal hy.1 hy.2, ← EReal.coe_add]
  exact ⟨EReal.coe_ne_top _, EReal.coe_ne_bot _⟩

theorem Finite.sum {n : ℕ} {f : Fin n → EReal} (h : ∀ k, Finite (f k)) : Finite (∑ k, f k) :=
  Finset.sum_induction f Finite (fun _ _ => Finite.add) ⟨EReal.zero_ne_top, EReal.zero_ne_bot⟩ fun k _ => h k

theorem score_ne_top {Q : Fin 1024 → Fin 32768 → EReal} {K : Fin 32768 → Fin 128 → EReal} (hQ : ∀ i j, Finite (Q i j))
    (hK : ∀ i j, Finite (K i j)) (b n : Fin 16) (g : Fin 2) (e : Fin 8) (q : Fin 128) (s : Fin 256) : score Q K b n g e q s ≠ ⊤ := by
  unfold score
  split
  · exact (Finite.sum fun d => (hK _ _).mul (hQ _ _)).1
  · exact bot_ne_top

/-- The entry of a block's query and a head's column. -/
theorem entry_at (S : Fin 16 → EReal) (Q : Fin 1024 → Fin 32768 → EReal) (K : Fin 32768 → Fin 128 → EReal)
    (V : Fin 128 → Fin 32768 → EReal) (b n : Fin 16) (q : Fin 128) (g : Fin 2) (e : Fin 8) (d : Fin 64) {r : Fin 32768} {c : Fin 1024}
    (hr : r = queryRow b n q) (hc : c = headCol g e d) : entry S Q K V r c = cell S Q K V b n q g e d := by
  subst hr hc
  unfold entry
  congr 1 <;> apply Fin.ext <;> simp only [queryRow, headCol] <;> omega

end Cert.Layer

namespace Cert.KernelIdeal.Hand

open Cert.KernelIdeal Cert.KernelIdeal.Gen Cert.Layer
open Idealize.ShloMosaic Idealize.ShloMosaic.TcCoe Idealize.SL.Sem
open Idealize.ShloMosaic.Pipeline (Dat)

section

variable (t : Fin cfg0.N) (x0 : Vec Ideal S16 .f32) (x1 : Vec Ideal S1024x2048 .bf16) (x2 : Vec Ideal S2048x128 .bf16)
  (x3 : Vec Ideal S128x128 .bf16) (x4 : Vec Ideal S128x2048 .bf16) (x5 : Vec Ideal S128x128 .bf16)

theorem mem_row {g : View.Piece (Elt Ideal) S2048x1024 .bf16} {j : Fin 16} {rest : List (View.Piece (Elt Ideal) S2048x1024 .bf16)}
    (h : g ∈ row t x0 x1 x2 x3 x4 x5 j rest) : (∃ j p, g = piece t x0 x1 x2 x3 x4 x5 j p) ∨ g ∈ rest := by
  simp only [row, List.mem_cons] at h
  rcases h with h | h | h | h | h | h | h | h | h
  on_goal 9 => exact .inr h
  all_goals exact .inl ⟨_, _, h⟩

theorem mem_pieces {g : View.Piece (Elt Ideal) S2048x1024 .bf16} (h : g ∈ pieces t x0 x1 x2 x3 x4 x5) :
    ∃ j p, g = piece t x0 x1 x2 x3 x4 x5 j p := by
  unfold pieces at h
  dsimp only at h
  iterate 16 (rcases mem_row t x0 x1 x2 x3 x4 x5 h with h | h; exact h)
  exact absurd h List.not_mem_nil

theorem qa_apply (j : Fin 16) (p : Fin 8) (d : Fin 64) (q : Fin 128) :
    qaOf t x1 j p (ix2 d q) = x1 (ix2 ⟨128 * p + d, by omega⟩ ⟨128 * j + q, by omega⟩) := by
  unfold qaOf
  rw [Memref.IsWhole.readAt_unread]
  blk_ext
  · show 128 * p.val + 1 * d.val = _
    omega
  · show 128 * j.val + 1 * q.val = _
    omega

theorem qb_apply (j : Fin 16) (p : Fin 8) (d : Fin 64) (q : Fin 128) :
    qbOf t x1 j p (ix2 d q) = x1 (ix2 ⟨128 * p + 64 + d, by omega⟩ ⟨128 * j + q, by omega⟩) := by
  unfold qbOf
  rw [Memref.IsWhole.readAt_unread]
  blk_ext
  · show 128 * p.val + 64 + 1 * d.val = _
    omega
  · show 128 * j.val + 1 * q.val = _
    omega

theorem sa_apply (p : Fin 8) : saOf t x0 p = x0 (ix1 ⟨2 * p, by omega⟩) := by
  unfold saOf
  rw [Memref.IsWhole.readAt_unread]
  blk_ext
  show 2 * p.val + 1 * 0 = _
  omega

theorem sb_apply (p : Fin 8) : sbOf t x0 p = x0 (ix1 ⟨2 * p + 1, by omega⟩) := by
  unfold sbOf
  rw [Memref.IsWhole.readAt_unread]
  blk_ext
  show 2 * p.val + 1 + 1 * 0 = _
  omega

theorem kwin_apply (j : Fin 16) (k : Fin 256) (l : Fin 128) (h : 128 ≤ 128 * j.val + k.val) :
    kwinOf t x2 x3 j (ix2 k l) = x2 (ix2 ⟨128 * j + k - 128, by omega⟩ l) := by
  unfold kwinOf
  rw [View.readCov_eq_canon']
  have e : (Rect.unit (s := S2176x128) ![128 * j.val, 0] S256x128.size (inK j)).toLoadRect.idx (ix2 k l)
      = (Rect.unit (s := S2176x128) ![128, 0] S2048x128.size inb_S2176x128_S2048x128_128_0).emb (ix2 ⟨128 * j + k - 128, by omega⟩ l) := by
    blk_ext
    · show 128 * j.val + 1 * k.val = _
      omega
    · show 0 + 1 * l.val = _
      omega
  dsimp only
  rw [e, keyPieces, View.canon_cons_emb]
  refine (congrFun (shapeCast_self _ _) _).trans ?_
  rw [Memref.IsWhole.readAt_unread]
  blk_ext
  · show 0 + 1 * (128 * j.val + k.val - 128) = _
    omega
  · show 0 + 1 * l.val = _
    omega

theorem vwin_apply (j : Fin 16) (k : Fin 256) (l : Fin 128) (h : 128 ≤ 128 * j.val + k.val) :
    vwinOf t x4 x5 j (ix2 l k) = x4 (ix2 l ⟨128 * j + k - 128, by omega⟩) := by
  unfold vwinOf
  rw [View.readCov_eq_canon']
  have e : (Rect.unit (s := S128x2176) ![0, 128 * j.val] S128x256.size (inV j)).toLoadRect.idx (ix2 l k)
      = (Rect.unit (s := S128x2176) ![0, 128] S128x2048.size inb_S128x2176_S128x2048_0_128).emb (ix2 l ⟨128 * j + k - 128, by omega⟩) := by
    blk_ext
    · show 0 + 1 * l.val = _
      omega
    · show 128 * j.val + 1 * k.val = _
      omega
  dsimp only
  rw [e, valPieces, View.canon_cons_emb]
  refine (congrFun (shapeCast_self _ _) _).trans ?_
  rw [Memref.IsWhole.readAt_unread]
  blk_ext
  · show 0 + 1 * l.val = _
    omega
  · show 0 + 1 * (128 * j.val + k.val - 128) = _
    omega

end

theorem coords1 : ∀ t : Fin grid0.N, BitVec.ofNat 32 (grid0.coords t 1).val = 0#32 := by decide +kernel

variable (m : (ℓ : Loc nD τ sig) → Buf (Elt Ideal) ℓ) (ρ : Dev nD → PrngReg)

/-- What a grid point leaves in the output window, given what each store leaves. -/
theorem out_apply (c : Dev nD) (t : Fin cfg0.N) (y : S2048x1024.Idx) (G : Vec Ideal S2048x1024 .bf16)
    (hG : ∀ (j : Fin 16) (p : Fin 8) (q l : Fin 128),
      headPair (decide (p.val < 4)) (decide (j.val = 0)) 0#32 (kwinOf t (iblk m c 2 t) (iblk m c 3 t) j) (qaOf t (iblk m c 1 t) j p)
        (qbOf t (iblk m c 1 t) j p) (vwinOf t (iblk m c 4 t) (iblk m c 5 t) j) (saOf t (iblk m c 0 t) p) (sbOf t (iblk m c 0 t) p) (ix2 q l)
        = G (ix2 ⟨128 * j + q, by omega⟩ ⟨128 * p + l, by omega⟩)) :
    (outsAt0 m c t).1 y = G y := by
  have e : (outsAt0 m c t).1 = VO0_11.read (Elt Ideal) (VO0_11.writes (Elt Ideal) VO0_11.junk (runAt t (iblk m c 0 t) (iblk m c 1 t)
    (iblk m c 2 t) (iblk m c 3 t) (iblk m c 4 t) (iblk m c 5 t) c (iblk m c 6 t) (iblk m c 7 t) (iblk m c 8 t) (iblk m c 9 t)
    (iblk m c 10 t)).1) := rfl
  rw [e]
  rw [View.read_writes_junk_apply_eq_canon]
  have hc := cover0_A_11 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t)
    (ms0_11 t) (hs0_11 t) (ms0_12 t) (hs0_12 t) (ms0_13 t) (hs0_13 t) (ms0_14 t) (hs0_14 t) (ms0_15 t) (hs0_15 t) (ms0_16 t)
    (hs0_16 t) scM0_0 (Memref.isWhole_whole _) scM0_1 (Memref.isWhole_whole _) (iblk m c 0 t) (iblk m c 1 t) (iblk m c 2 t) (iblk m c 3 t)
    (iblk m c 4 t) (iblk m c 5 t) (iblk m c 6 t) (iblk m c 7 t) (iblk m c 8 t) (iblk m c 9 t) (iblk m c 10 t) y
  have hp := run_pieces t (iblk m c 0 t) (iblk m c 1 t) (iblk m c 2 t) (iblk m c 3 t)
    (iblk m c 4 t) (iblk m c 5 t) c (iblk m c 6 t) (iblk m c 7 t) (iblk m c 8 t) (iblk m c 9 t) (iblk m c 10 t)
  rw [hp] at hc ⊢
  refine View.canon_apply_of_pieces G _ (fun g hg x => ?_) y hc
  obtain ⟨j, p, rfl⟩ := mem_pieces _ _ _ _ _ _ _ hg
  dsimp only [piece] at x ⊢
  obtain ⟨q, l, rfl⟩ : ∃ (q l : Fin 128), x = ix2 q l := ⟨x 0, x 1, eq_ix2 x⟩
  rw [coords1, hG]
  refine congrArg G ?_
  blk_ext
  · show _ = 128 * j.val + 1 * q.val
    omega
  · show _ = 128 * p.val + 1 * l.val
    omega

end Cert.KernelIdeal.Hand

end
-- ==== Proof.AttnRef.lean ====
/-
  The reference's attention, step by step and index by index.
-/
module

public import proofs.«01_k».proof.Proof.AttnSpec
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Hand

open Cert.ReferenceIdeal Cert.ReferenceIdeal.Gen Cert.Layer
open Idealize.ShloMosaic Idealize.ShloMosaic.TcCoe Idealize.SL.Sem

/-- Rows by key heads in blocks of 128, each block with the one before it. -/
def hostPairs (x : FVec Ideal S32768x128 .f32) : FVec Ideal S16x16x256x2x64 .f32 :=
  concatenate S16x16x256x2x64 2 [⟨S16x16x128x2x64, (extractStridedSlice S16x16x128x2x64 ![0, 0, 0, 0, 0] (pad S16x17x128x2x64 ![0, 1, 0, 0, 0] ![0, 0, 0, 0, 0] ![0, 0, 0, 0, 0] (shapeCast _ x shapeCasts_S32768x128_S16x16x128x2x64) (sitofp .f32 (constantI S_ 32 0#32)) pads_S16x16x128x2x64_S16x17x128x2x64_000_100_000_000_000 h_S_) slices_S16x17x128x2x64_S16x16x128x2x64_0_0_0_0_0)⟩, ⟨S16x16x128x2x64, (shapeCast _ x shapeCasts_S32768x128_S16x16x128x2x64)⟩] concatenates_S16x16x128x2x64_S16x16x128x2x64_S16x16x256x2x64_d2

def hostKeys (k : FVec Ideal S32768x128 .bf16) : FVec Ideal S16x16x256x2x64 .f32 := hostPairs (extf .f32 k bitsLt_bf16_f32)

def hostVals (v : FVec Ideal S128x32768 .bf16) : FVec Ideal S16x16x256x2x64 .f32 :=
  hostPairs (transpose S32768x128 [1, 0] (extf .f32 v bitsLt_bf16_f32) transposes_S128x32768_S32768x128_1_0)

/-- How far the query lies after the key. -/
def hostDiff : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

def hostBand : IVec S128x256 1 :=
  andi (cmpi .sge hostDiff (broadcastInDim S128x256 ![] bcast_S_S128x256 (constantI S_ 32 0#32))) (cmpi .slt hostDiff (broadcastInDim S128x256 ![] bcast_S_S128x256 (constantI S_ 32 128#32)))

def hostInside : IVec S16x1x256 1 :=
  cmpi .sge (addi (broadcastInDim S16x1x256 ![0, 1, 2] bcast_S16x1x1_S16x1x256_0_1_2 (subi (muli (broadcastInDim S16x1x1 ![0] bcast_S16_S16x1x1_0 (iotaInDim S16 32 0)) (broadcastInDim S16x1x1 ![] bcast_S_S16x1x1 (constantI S_ 32 128#32))) (broadcastInDim S16x1x1 ![] bcast_S_S16x1x1 (constantI S_ 32 128#32)))) (broadcastInDim S16x1x256 ![0, 1, 2] bcast_S1x1x256_S16x1x256_0_1_2 (broadcastInDim S1x1x256 ![1, 2] bcast_S1x256_S1x1x256_1_2 (broadcastInDim S1x256 ![1] bcast_S256_S1x256_1 (iotaInDim S256 32 0))))) (broadcastInDim S16x1x256 ![] bcast_S_S16x1x256 (constantI S_ 32 0#32))

def hostMask : IVec S16x128x256 1 :=
  andi (broadcastInDim S16x128x256 ![0, 1, 2] bcast_S1x128x256_S16x128x256_0_1_2 (broadcastInDim S1x128x256 ![1, 2] bcast_S128x256_S1x128x256_1_2 hostBand)) (broadcastInDim S16x128x256 ![0, 1, 2] bcast_S16x1x256_S16x128x256_0_1_2 hostInside)

def hostDots (q : FVec Ideal S1024x32768 .bf16) (kk : FVec Ideal S16x16x256x2x64 .f32) : FVec Ideal S16x16x2x8x128x256 .f32 :=
  transpose S16x16x2x8x128x256 [0, 1, 2, 5, 4, 3] (Host.dotGeneral dot_S16x16x256x2x64_S16x16x128x2x8x64_S16x16x2x256x128x8_4_5_2_24_013_013 none kk (shapeCast _ (transpose S32768x1024 [1, 0] (extf .f32 q bitsLt_bf16_f32) transposes_S1024x32768_S32768x1024_1_0) shapeCasts_S32768x1024_S16x16x128x2x8x64)) transposes_S16x16x2x256x128x8_S16x16x2x8x128x256_0_1_2_5_4_3

def hostScores (mask : IVec S16x128x256 1) (dots : FVec Ideal S16x16x2x8x128x256 .f32) : FVec Ideal S16x16x2x8x128x256 .f32 :=
  select (broadcastInDim S16x16x2x8x128x256 ![0, 1, 2, 3, 4, 5] bcast_S1x16x1x1x128x256_S16x16x2x8x128x256_0_1_2_3_4_5 (broadcastInDim S1x16x1x1x128x256 ![1, 4, 5] bcast_S16x128x256_S1x16x1x1x128x256_1_4_5 mask)) dots (broadcastInDim S16x16x2x8x128x256 ![] bcast_S_S16x16x2x8x128x256 (id (constant S_ .f32 0xFF800000#32)))

def hostSinks (s : FVec Ideal S16 .f32) : FVec Ideal S16x16x2x8x128x1 .f32 :=
  broadcastInDim S16x16x2x8x128x1 ![0, 1, 2, 3, 4, 5] bcast_S1x1x2x8x1x1_S16x16x2x8x128x1_0_1_2_3_4_5 (broadcastInDim S1x1x2x8x1x1 ![2, 3] bcast_S2x8_S1x1x2x8x1x1_2_3 (shapeCast _ s shapeCasts_S16_S2x8))

def hostRowMax (sc : FVec Ideal S16x16x2x8x128x256 .f32) : FVec Ideal S16x16x2x8x128 .f32 :=
  Host.reduce FloatOps.maximumf sc (constant S_ .f32 0xFF800000#32) reducesTo_S16x16x2x8x128x256_S16x16x2x8x128_d5 h_S_

def hostRowSum (w : FVec Ideal S16x16x2x8x128x256 .f32) : FVec Ideal S16x16x2x8x128 .f32 :=
  Host.reduceAdd w (constant S_ .f32 0x00000000#32) reducesTo_S16x16x2x8x128x256_S16x16x2x8x128_d5 h_S_

/-- A value per row, spread over a last axis of length one. -/
def hostRows (x : FVec Ideal S16x16x2x8x128 .f32) : FVec Ideal S16x16x2x8x128x1 .f32 :=
  broadcastInDim S16x16x2x8x128x1 ![0, 1, 2, 3, 4] bcast_S16x16x2x8x128_S16x16x2x8x128x1_0_1_2_3_4 x

def hostTop (s : FVec Ideal S16 .f32) (sc : FVec Ideal S16x16x2x8x128x256 .f32) : FVec Ideal S16x16x2x8x128x1 .f32 :=
  maximumf (hostRows (hostRowMax sc)) (hostSinks s)

def hostWeights (sc : FVec Ideal S16x16x2x8x128x256 .f32) (t : FVec Ideal S16x16x2x8x128x1 .f32) : FVec Ideal S16x16x2x8x128x256 .f32 :=
  Host.exp (subf sc (broadcastInDim S16x16x2x8x128x256 ![0, 1, 2, 3, 4, 5] bcast_S16x16x2x8x128x1_S16x16x2x8x128x256_0_1_2_3_4_5 t))

def hostDen (s : FVec Ideal S16 .f32) (w : FVec Ideal S16x16x2x8x128x256 .f32) (t : FVec Ideal S16x16x2x8x128x1 .f32) :
    FVec Ideal S16x16x2x8x128x1 .f32 :=
  addf (hostRows (hostRowSum w)) (Host.exp (subf (hostSinks s) t))

def hostProbs (w : FVec Ideal S16x16x2x8x128x256 .f32) (d : FVec Ideal S16x16x2x8x128x1 .f32) : FVec Ideal S16x16x2x8x128x256 .f32 :=
  Host.divf w (broadcastInDim S16x16x2x8x128x256 ![0, 1, 2, 3, 4, 5] bcast_S16x16x2x8x128x1_S16x16x2x8x128x256_0_1_2_3_4_5 d)

def hostMixed (vv : FVec Ideal S16x16x256x2x64 .f32) (p : FVec Ideal S16x16x2x8x128x256 .f32) : FVec Ideal S16x16x128x2x8x64 .f32 :=
  transpose S16x16x128x2x8x64 [0, 1, 5, 2, 4, 3] (Host.dotGeneral dot_S16x16x256x2x64_S16x16x2x8x128x256_S16x16x2x64x8x128_2_5_4_34_013_012 none vv p) transposes_S16x16x2x64x8x128_S16x16x128x2x8x64_0_1_5_2_4_3

def hostFlat (o : FVec Ideal S16x16x128x2x8x64 .f32) : FVec Ideal S32768x1024 .bf16 :=
  truncf .bf16 (shapeCast _ o shapeCasts_S16x16x128x2x8x64_S32768x1024) bitsLt_bf16_f32

/-- The reference's attention in those steps. -/
def hostAttn (s : FVec Ideal S16 .f32) (sc : FVec Ideal S16x16x2x8x128x256 .f32) (vv : FVec Ideal S16x16x256x2x64 .f32) :
    FVec Ideal S16x16x128x2x8x64 .f32 :=
  hostMixed vv (hostProbs (hostWeights sc (hostTop s sc)) (hostDen s (hostWeights sc (hostTop s sc)) (hostTop s sc)))

theorem res_host (m : (ℓ : Loc nD τ sig) → Buf (Elt Ideal) ℓ) (c : Dev nD) : Value.res_out0 m c =
    hostFlat (hostAttn (m ((c.tc : Thread nD τ).loc main_arg0))
      (hostScores hostMask (hostDots (m ((c.tc : Thread nD τ).loc main_arg1)) (hostKeys (m ((c.tc : Thread nD τ).loc main_arg2)))))
      (hostVals (m ((c.tc : Thread nD τ).loc main_arg3)))) := rfl

theorem hostPairs_apply (x : FVec Ideal S32768x128 .f32) (b n : Fin 16) (s : Fin 256) (g : Fin 2) (d : Fin 64) :
    hostPairs x (ix5 b n s g d) = if n.val = 0 ∧ s.val < 128 then 0 else x (ix2 (keyRow b n s) (keyLane g d)) := by
  pointwise [hostPairs]
  have lane : (⟨g.val * 64 + d.val, by omega⟩ : Fin 128) = keyLane g d := Fin.ext (by simp [keyLane]; omega)
  by_cases h : s.val < 128
  · rw [dif_pos h]
    by_cases hn : n.val = 0
    · rw [dif_neg (by omega), if_pos ⟨hn, h⟩]
      show (((0#32 : BitVec 32).toInt : ℝ) : EReal) = 0
      simp
    · rw [dif_pos (by omega), if_neg (by omega), lane]
      exact congrArg (fun r => x (ix2 r _)) (Fin.ext (by simp [keyRow]; omega))
  · rw [dif_neg h]
    refine Eq.trans ?_ (if_neg (c := n.val = 0 ∧ s.val < 128) fun h' => h h'.2).symm
    exact congrArg₂ (fun r c => x (ix2 r c)) (Fin.ext (by simp only [keyRow]; omega)) lane

theorem word_sge (x y : ℤ) (a b : BitVec 32) (ha : a.toInt = x) (hb : b.toInt = y) :
    IntOp.cmpi CmpIPredicate.sge a b = BitVec.ofBool (decide (y ≤ x)) := by subst ha hb; rfl

theorem word_slt (x y : ℤ) (a b : BitVec 32) (ha : a.toInt = x) (hb : b.toInt = y) :
    IntOp.cmpi CmpIPredicate.slt a b = BitVec.ofBool (decide (x < y)) := by subst ha hb; rfl

theorem andi_ofBool (p q : Bool) : IntOp.andi (BitVec.ofBool p) (BitVec.ofBool q) = BitVec.ofBool (p && q) := by
  cases p <;> cases q <;> rfl

theorem diff_toInt (q : Fin 128) (s : Fin 256) :
    (IntOp.subi (IntOp.addi (BitVec.ofNat 32 q.val) 128#32) (BitVec.ofNat 32 s.val)).toInt = (q.val : ℤ) + 128 - s.val := by
  rw [show IntOp.subi (IntOp.addi (BitVec.ofNat 32 q.val) 128#32) (BitVec.ofNat 32 s.val)
    = BitVec.ofInt 32 ((q.val : ℤ) + 128 - s.val) from ?_, BitVec.toInt_ofInt, Int.bmod_eq_of_le] <;> try omega
  show BitVec.ofNat 32 q.val + 128#32 - BitVec.ofNat 32 s.val = _
  rw [Int.sub_eq_add_neg, BitVec.ofInt_add, BitVec.ofInt_neg, BitVec.ofInt_add, BitVec.ofInt_natCast, BitVec.ofInt_natCast,
    BitVec.sub_eq_add_neg]
  rfl

theorem pos_toInt (n : Fin 16) (s : Fin 256) :
    (IntOp.addi (IntOp.subi (IntOp.muli (BitVec.ofNat 32 n.val) 128#32) 128#32) (BitVec.ofNat 32 s.val)).toInt
      = (n.val : ℤ) * 128 - 128 + s.val := by
  rw [show IntOp.addi (IntOp.subi (IntOp.muli (BitVec.ofNat 32 n.val) 128#32) 128#32) (BitVec.ofNat 32 s.val)
    = BitVec.ofInt 32 ((n.val : ℤ) * 128 - 128 + s.val) from ?_, BitVec.toInt_ofInt, Int.bmod_eq_of_le] <;> try omega
  show BitVec.ofNat 32 n.val * 128#32 - 128#32 + BitVec.ofNat 32 s.val = _
  rw [BitVec.ofInt_add, Int.sub_eq_add_neg, BitVec.ofInt_add, BitVec.ofInt_neg, BitVec.ofInt_mul, BitVec.ofInt_natCast,
    BitVec.ofInt_natCast, BitVec.sub_eq_add_neg]
  rfl

theorem hostMask_apply (n : Fin 16) (q : Fin 128) (s : Fin 256) : hostMask (ix3 n q s) = BitVec.ofBool (decide (seen n q s)) := by
  pointwise [hostMask, hostBand, hostInside, hostDiff]
  rw [word_sge _ 0 _ _ (diff_toInt q s) rfl, word_slt _ 128 _ _ (diff_toInt q s) rfl, word_sge _ 0 _ _ (pos_toInt n s) rfl,
    andi_ofBool, andi_ofBool, ← Bool.decide_and, ← Bool.decide_and]
  refine congrArg BitVec.ofBool (decide_eq_decide.2 ?_)
  unfold seen
  omega

theorem hostDots_apply (x : FVec Ideal S1024x32768 .bf16) (kk : FVec Ideal S16x16x256x2x64 .f32) (b n : Fin 16) (g : Fin 2)
    (e : Fin 8) (q : Fin 128) (s : Fin 256) : hostDots x kk (ix6 b n g e q s) =
      ∑ d : Fin 64, kk (ix5 b n s g d) * x (ix2 (headCol g e d) (queryRow b n q)) := by
  pointwise [hostDots]
  refine Finset.sum_congr rfl fun d _ => congrArg (_ * ·) (congrArg₂ (fun r c => x (ix2 r c)) (Fin.ext ?_) (Fin.ext ?_))
  · simp [headCol]; omega
  · simp [queryRow]; omega

theorem lift6 {n0 n1 n2 n3 n4 n5 : ℕ} (h : (⟨6, ![n0, n1, n2, n3, n4, n5]⟩ : Shape).Reduces [5] ⟨5, ![n0, n1, n2, n3, n4]⟩)
    (a : Fin n0) (b : Fin n1) (c : Fin n2) (d : Fin n3) (e : Fin n4) (k : Fin n5) : h.lift (ix5 a b c d e) k = ix6 a b c d e k := by
  funext i
  apply Fin.ext
  match i with
  | ⟨0, _⟩ => rfl
  | ⟨1, _⟩ => rfl
  | ⟨2, _⟩ => rfl
  | ⟨3, _⟩ => rfl
  | ⟨4, _⟩ => rfl
  | ⟨5, _⟩ => rfl

theorem reduces6 : S16x16x2x8x128x256.Reduces [5] S16x16x2x8x128 := by decide

theorem hostRowMax_apply (sc : FVec Ideal S16x16x2x8x128x256 .f32) (b n : Fin 16) (g : Fin 2) (e : Fin 8) (q : Fin 128) :
    hostRowMax sc (ix5 b n g e q) = Finset.univ.fold max ⊥ (fun k => sc (ix6 b n g e q k)) := by
  unfold hostRowMax
  rw [Host.reduce_eq_fold_single _ _ _ _ reduces6]
  have e0 : (constant S_ .f32 0xFF800000#32 : FVec Ideal S_ .f32) (Shape.Idx.first h_S_) = (⊥ : EReal) := by
    show Ideal.ofBits .f32 0xFF800000#32 = ⊥
    simp [Ideal.ofBits, Ideal.ieee]
  rw [e0]
  exact congrArg (Finset.univ.fold max ⊥) (funext fun k => congrArg sc (lift6 reduces6 b n g e q k))

theorem hostRowSum_apply (w : FVec Ideal S16x16x2x8x128x256 .f32) (b n : Fin 16) (g : Fin 2) (e : Fin 8) (q : Fin 128) :
    hostRowSum w (ix5 b n g e q) = ∑ k, w (ix6 b n g e q k) := by
  unfold hostRowSum
  rw [Host.reduceAdd_apply, Ideal.hostReduceAdd_def, Ideal.hostReduceAdd_single _ reduces6]
  have e0 : (constant S_ .f32 0x00000000#32 : FVec Ideal S_ .f32) (Shape.Idx.first h_S_) = (0 : EReal) := by
    show Ideal.ofBits .f32 0x00000000#32 = 0
    simp [Ideal.ofBits, Ideal.ieee]
  rw [e0, zero_add]
  exact Finset.sum_congr rfl fun k _ => congrArg w (lift6 reduces6 b n g e q k)

theorem hostSinks_apply (s : FVec Ideal S16 .f32) (b n : Fin 16) (g : Fin 2) (e : Fin 8) (q : Fin 128) (z : Fin 1) :
    hostSinks s (ix6 b n g e q z) = s (ix1 (headOf g e)) := by
  pointwise [hostSinks]
  exact congrArg (fun h => s (ix1 h)) (Fin.ext (by simp [headOf]; omega))

theorem hostRows_apply (x : FVec Ideal S16x16x2x8x128 .f32) (b n : Fin 16) (g : Fin 2) (e : Fin 8) (q : Fin 128) (z : Fin 1) :
    hostRows x (ix6 b n g e q z) = x (ix5 b n g e q) := by
  pointwise [hostRows]

theorem hostTop_apply (s : FVec Ideal S16 .f32) (sc : FVec Ideal S16x16x2x8x128x256 .f32) (b n : Fin 16) (g : Fin 2)
    (e : Fin 8) (q : Fin 128) (z : Fin 1) : hostTop s sc (ix6 b n g e q z) =
      topOf (fun k => sc (ix6 b n g e q k)) (s (ix1 (headOf g e))) := by
  unfold hostTop topOf
  rw [maximumf_apply, Ideal.maximumf_def, hostRows_apply, hostRowMax_apply, hostSinks_apply]

theorem hostDen_apply (s : FVec Ideal S16 .f32) (w : FVec Ideal S16x16x2x8x128x256 .f32) (t : FVec Ideal S16x16x2x8x128x1 .f32) (b n : Fin 16) (g : Fin 2)
    (e : Fin 8) (q : Fin 128) (z : Fin 1) : hostDen s w t (ix6 b n g e q z) =
      (∑ k, w (ix6 b n g e q k)) + Ideal.exp (s (ix1 (headOf g e)) - t (ix6 b n g e q z)) := by
  pointwise [hostDen]
  rw [hostRows_apply, hostRowSum_apply, hostSinks_apply]

theorem hostWeights_apply (sc : FVec Ideal S16x16x2x8x128x256 .f32) (t : FVec Ideal S16x16x2x8x128x1 .f32) (b n : Fin 16) (g : Fin 2)
    (e : Fin 8) (q : Fin 128) (k : Fin 256) : hostWeights sc t (ix6 b n g e q k) =
      Ideal.exp (sc (ix6 b n g e q k) - t (ix6 b n g e q 0)) := by
  pointwise [hostWeights]

theorem hostProbs_apply (w : FVec Ideal S16x16x2x8x128x256 .f32) (t : FVec Ideal S16x16x2x8x128x1 .f32) (b n : Fin 16) (g : Fin 2)
    (e : Fin 8) (q : Fin 128) (k : Fin 256) : hostProbs w t (ix6 b n g e q k) =
      Ideal.div (w (ix6 b n g e q k)) (t (ix6 b n g e q 0)) := by
  pointwise [hostProbs]

theorem hostMixed_apply (vv : FVec Ideal S16x16x256x2x64 .f32) (p : FVec Ideal S16x16x2x8x128x256 .f32) (b n : Fin 16) (g : Fin 2)
    (e : Fin 8) (q : Fin 128) (d : Fin 64) : hostMixed vv p (ix6 b n q g e d) =
      ∑ k, vv (ix5 b n k g d) * p (ix6 b n g e q k) := by
  pointwise [hostMixed]

theorem hostFlat_apply (o : FVec Ideal S16x16x128x2x8x64 .f32) (r : Fin 32768) (c : Fin 1024) : hostFlat o (ix2 r c) =
    o (ix6 ⟨r / 2048, by omega⟩ ⟨r / 128 % 16, by omega⟩ ⟨r % 128, by omega⟩ ⟨c / 512, by omega⟩ ⟨c / 64 % 8, by omega⟩
    ⟨c % 64, by omega⟩) := by
  pointwise [hostFlat]

theorem select_ofBool (p : Bool) (a b : EReal) : Scalar.select (BitVec.ofBool p) a b = if p then a else b := by
  cases p <;> rfl

theorem hostScores_apply (x : FVec Ideal S1024x32768 .bf16) (k : FVec Ideal S32768x128 .bf16) (b n : Fin 16) (g : Fin 2)
    (e : Fin 8) (q : Fin 128) (s : Fin 256) : hostScores hostMask (hostDots x (hostKeys k)) (ix6 b n g e q s) =
      score (fun i j => x (ix2 i j)) (fun i j => k (ix2 i j)) b n g e q s := by
  pointwise [hostScores]
  rw [hostMask_apply, hostDots_apply]
  unfold score
  by_cases h : seen n q s
  · rw [if_pos h, decide_eq_true h, select_ofBool, if_pos rfl]
    refine Finset.sum_congr rfl fun d _ => congrArg (· * _) ?_
    rw [hostKeys, hostPairs_apply, if_neg fun h' => absurd (h.2 h'.1) (by omega)]
    rfl
  · rw [if_neg h, decide_eq_false h, select_ofBool, if_neg Bool.false_ne_true]
    refine Eq.trans (b := Ideal.ofBits .f32 0xFF800000#32) rfl ?_
    simp [Ideal.ofBits, Ideal.ieee]

theorem hostVals_apply (v : FVec Ideal S128x32768 .bf16) (b n : Fin 16) (s : Fin 256) (g : Fin 2) (d : Fin 64) :
    hostVals v (ix5 b n s g d) = value (fun i j => v (ix2 i j)) b n g d s := by
  rw [hostVals, hostPairs_apply]
  unfold value
  refine if_congr Iff.rfl rfl ?_
  pointwise []

/-- The reference's result, index by index. -/
theorem res_apply (m : (ℓ : Loc nD τ sig) → Buf (Elt Ideal) ℓ) (c : Dev nD) (r : Fin 32768) (l : Fin 1024) :
    Value.res_out0 m c (ix2 r l) = entry (fun h => m ((c.tc : Thread nD τ).loc main_arg0) (ix1 h))
      (fun i j => m ((c.tc : Thread nD τ).loc main_arg1) (ix2 i j)) (fun i j => m ((c.tc : Thread nD τ).loc main_arg2) (ix2 i j))
      (fun i j => m ((c.tc : Thread nD τ).loc main_arg3) (ix2 i j)) r l := by
  rw [res_host, hostFlat_apply]
  unfold entry cell attend
  rw [hostAttn, hostMixed_apply]
  refine Finset.sum_congr (M := EReal) rfl fun k _ => ?_
  rw [hostVals_apply, hostProbs_apply, hostDen_apply]
  simp only [hostWeights_apply, hostTop_apply, hostScores_apply]
  rfl

end Cert.ReferenceIdeal.Hand

end
-- ==== Proof.Attn.lean ====
/-
  The attention's launch and its reference hold the same six arrays: the attention of the arguments, and the five weights narrowed.
-/
module

public import proofs.«01_k».proof.Proof.AttnOut
public import proofs.«01_k».proof.Proof.AttnRef
public import proofs.«01_k».proof.Defs

@[expose] public section

set_option maxRecDepth 16384

noncomputable section

namespace Cert.KernelIdeal.Hand

open Cert.KernelIdeal Cert.KernelIdeal.Gen Cert.Layer
open Idealize.ShloMosaic Idealize.ShloMosaic.TcCoe Idealize.SL.Sem
open Idealize.ShloMosaic.Pipeline (Dat)

/-- The attention as an array of its four arguments. -/
def whole (S : Vec Ideal S16 .f32) (Q : Vec Ideal S1024x32768 .bf16) (K : Vec Ideal S32768x128 .bf16) (V : Vec Ideal S128x32768 .bf16) :
    Vec Ideal S32768x1024 .bf16 := fun i => entry (fun h => S (ix1 h)) (fun i j => Q (ix2 i j)) (fun i j => K (ix2 i j))
      (fun i j => V (ix2 i j)) (i 0) (i 1)

variable (m : (ℓ : Loc nD τ sig) → Buf (Elt Ideal) ℓ)

theorem idx : ∀ t : Fin grid0.N, win0_0.index t = ![0] ∧ win0_1.index t = ![0, t.val] ∧ win0_2.index t = ![t.val, 0]
    ∧ win0_4.index t = ![0, t.val] ∧ win0_11.index t = ![t.val, 0] := by decide +kernel

theorem idxW : ∀ t : Fin grid0.N, win0_6.index t = ![t.val, 0] ∧ win0_7.index t = ![t.val, 0] ∧ win0_8.index t = ![t.val, 0]
    ∧ win0_9.index t = ![t.val, 0] ∧ win0_10.index t = ![t.val, 0] ∧ win0_12.index t = ![t.val, 0] ∧ win0_13.index t = ![t.val, 0]
    ∧ win0_14.index t = ![t.val, 0] ∧ win0_15.index t = ![t.val, 0] ∧ win0_16.index t = ![t.val, 0] := by decide +kernel

theorem lt16 (t : Fin cfg0.N) : t.val < 16 := t.isLt

theorem sblk (c : Dev nD) (t : Fin cfg0.N) (h : Fin 16) :
    iblk m c 0 t (ix1 h) = m ((c : Thread nD τ).loc main_arg0) (ix1 h) := by
  blk_ext [iblk, V, idx t]

theorem qblk (c : Dev nD) (t : Fin cfg0.N) (r : Fin 1024) (l : Fin 2048) :
    iblk m c 1 t (ix2 r l) = m ((c : Thread nD τ).loc main_arg1) (ix2 r ⟨2048 * t.val + l, by have := lt16 t; omega⟩) := by
  blk_ext [iblk, V, idx t]

theorem kblk (c : Dev nD) (t : Fin cfg0.N) (r : Fin 2048) (l : Fin 128) :
    iblk m c 2 t (ix2 r l) = m ((c : Thread nD τ).loc main_arg2) (ix2 ⟨2048 * t.val + r, by have := lt16 t; omega⟩ l) := by
  blk_ext [iblk, V, idx t]

theorem vblk (c : Dev nD) (t : Fin cfg0.N) (r : Fin 128) (l : Fin 2048) :
    iblk m c 4 t (ix2 r l) = m ((c : Thread nD τ).loc main_arg3) (ix2 r ⟨2048 * t.val + l, by have := lt16 t; omega⟩) := by
  blk_ext [iblk, V, idx t]

theorem lane_eq (p : Fin 8) (d : Fin 64) : lane (decide (p.val < 4)) d = keyLane ⟨p / 4, by omega⟩ d := by
  apply Fin.ext
  by_cases h : p.val < 4
  · simp only [lane, keyLane, h, decide_true, if_true]
    omega
  · simp only [lane, keyLane, h, decide_false, Bool.false_eq_true, if_false]
    omega

/-- The attention array the launch leaves. -/
theorem final11 (c : Dev nD) (hS : ∀ h : Fin 16, Finite (m ((c : Thread nD τ).loc main_arg0) (ix1 h)))
    (hQ : ∀ (i : Fin 1024) (j : Fin 32768), Finite (m ((c : Thread nD τ).loc main_arg1) (ix2 i j)))
    (hK : ∀ (i : Fin 32768) (j : Fin 128), Finite (m ((c : Thread nD τ).loc main_arg2) (ix2 i j))) :
    (dats m 0 c).arrAt 11 cfg0.N = whole (m ((c : Thread nD τ).loc main_arg0)) (m ((c : Thread nD τ).loc main_arg1))
      (m ((c : Thread nD τ).loc main_arg2)) (m ((c : Thread nD τ).loc main_arg3)) := by
  refine (dats m 0 c).arrAt_eq_of_covers 11 _ (by decide +kernel) fun t hf y => ?_
  blk_simp
  rw [after0_11]
  have ht := lt16 t
  refine (out_apply m c t y (fun y => entry (fun h => m ((c : Thread nD τ).loc main_arg0) (ix1 h))
    (fun i j => m ((c : Thread nD τ).loc main_arg1) (ix2 i j)) (fun i j => m ((c : Thread nD τ).loc main_arg2) (ix2 i j))
    (fun i j => m ((c : Thread nD τ).loc main_arg3) (ix2 i j))
    ⟨2048 * t.val + (y 0).val, by have : (y 0).val < 2048 := (y 0).isLt; omega⟩ (y 1)) fun j p q l => ?_).trans ?_
  · refine Eq.trans ?_ (entry_at _ _ _ _ ⟨t.val, ht⟩ j q ⟨p / 4, by omega⟩ ⟨2 * (p % 4) + l / 64, by omega⟩ ⟨l % 64, by omega⟩
      (Fin.ext ?_) (Fin.ext ?_)).symm
    · unfold cell
      refine headPair_apply _ _ _ _ _ _ _ _ _ _ _ _ _ (fun k => ?_) (fun k => ?_) ?_ (fun k => ?_) ?_ ?_
      · unfold score
        by_cases h : seen j q k
        · rw [if_pos h, if_pos ⟨h.1, fun hj => h.2 (of_decide_eq_true hj)⟩]
          refine Finset.sum_congr rfl fun d _ => congrArg₂ (· * ·) ?_ ?_
          · rw [kwin_apply _ _ _ _ _ _ (by have := h.2; omega), kblk, lane_eq]
            exact congrArg (fun r => m ((c : Thread nD τ).loc main_arg2) (ix2 r _)) (Fin.ext (by
              have := h.2
              simp only [keyRow]
              omega))
          · by_cases hl : l.val < 64
            · rw [if_pos hl, qa_apply, qblk]
              exact congrArg₂ (fun r s => m ((c : Thread nD τ).loc main_arg1) (ix2 r s))
                (Fin.ext (by simp only [headCol]; omega)) (Fin.ext (by simp only [queryRow]; omega))
            · rw [if_neg hl, qb_apply, qblk]
              exact congrArg₂ (fun r s => m ((c : Thread nD τ).loc main_arg1) (ix2 r s))
                (Fin.ext (by simp only [headCol]; omega)) (Fin.ext (by simp only [queryRow]; omega))
        · rw [if_neg h, if_neg fun h' => h ⟨h'.1, fun hj => h'.2 (decide_eq_true hj)⟩]
      · by_cases h : seen j q k
        · right
          unfold value
          rw [if_neg fun h' => absurd (h.2 h'.1) (by omega), vwin_apply _ _ _ _ _ _ (by have := h.2; omega), vblk, lane_eq]
          exact congrArg (fun r => m ((c : Thread nD τ).loc main_arg3) (ix2 _ r)) (Fin.ext (by
            have := h.2
            simp only [keyRow]
            omega))
        · left
          unfold score
          rw [if_neg h]
      · by_cases hl : l.val < 64
        · rw [if_pos hl, sa_apply, sblk]
          exact congrArg (fun r => m ((c : Thread nD τ).loc main_arg0) (ix1 r)) (Fin.ext (by simp only [headOf]; omega))
        · rw [if_neg hl, sb_apply, sblk]
          exact congrArg (fun r => m ((c : Thread nD τ).loc main_arg0) (ix1 r)) (Fin.ext (by simp only [headOf]; omega))
      · exact score_ne_top hQ hK _ _ _ _ _ _
      · exact (hS _).1
      · exact (hS _).2
    · show 2048 * t.val + (128 * j.val + q.val) = 2048 * t.val + 128 * j.val + q.val
      omega
    · show 128 * p.val + l.val = 512 * (p.val / 4) + 64 * (2 * (p.val % 4) + l.val / 64) + l.val % 64
      omega
  · unfold whole
    dsimp only
    refine congrArg₂ (entry _ _ _ _) (Fin.ext ?_) (Fin.ext ?_)
    · blk_simp [idx t]
      show 2048 * t.val + (y 0).val = _
      omega
    · blk_simp [idx t]

theorem idx_whole {n k : ℕ} (h) (y : (⟨2, ![n, k]⟩ : Shape).Idx) :
    (Rect.unit (s := ⟨2, ![n, k]⟩) ![0, 0] (⟨2, ![n, k]⟩ : Shape).size h).toLoadRect.idx y = y := by
  funext a
  apply Fin.ext
  match a with
  | 0 =>
    show 0 + 1 * (y 0).val = _
    omega
  | 1 =>
    show 0 + 1 * (y 1).val = _
    omega

theorem cast12 (c : Dev nD) (t : Fin cfg0.N) (y : S64x1024.Idx) :
    (outsAt0 m c t).2.1 y = (truncf .bf16 (iblk m c 6 t : FVec Ideal S64x1024 .f32) bitsLt_bf16_f32 : FVec Ideal S64x1024 .bf16) y := by
  have e : (outsAt0 m c t).2.1 = VO0_12.read (Elt Ideal) (VO0_12.writes (Elt Ideal) VO0_12.junk
    (runAt t (iblk m c 0 t) (iblk m c 1 t) (iblk m c 2 t) (iblk m c 3 t) (iblk m c 4 t) (iblk m c 5 t) c (iblk m c 6 t) (iblk m c 7 t)
      (iblk m c 8 t) (iblk m c 9 t) (iblk m c 10 t)).2.1) := by
    sl_kernel_rfl
  have hp : (runAt t (iblk m c 0 t) (iblk m c 1 t) (iblk m c 2 t) (iblk m c 3 t) (iblk m c 4 t) (iblk m c 5 t) c (iblk m c 6 t)
      (iblk m c 7 t) (iblk m c 8 t) (iblk m c 9 t) (iblk m c 10 t)).2.1 = [⟨Rect.unit (s := S64x1024) ![0, 0] S64x1024.size inb_S64x1024_S64x1024_0_0,
      k0_pay1323 ((ms0_6 t).view.readAt (Elt Ideal) (Rect.unit (s := S64x1024) ![0, 0] S64x1024.size inb_S64x1024_S64x1024_0_0).toLoadRect
        ((hs0_6 t).unread (iblk m c 6 t)))⟩] := by
    sl_kernel_rfl
  rw [e, View.read_writes_junk_apply_eq_canon, hp]
  refine (congrArg (View.canon _) (idx_whole inb_S64x1024_S64x1024_0_0 y).symm).trans ((View.canon_cons_emb _ _ _ _).trans ?_)
  unfold k0_pay1323
  pointwise []
  rw [Memref.IsWhole.readAt_unread, idx_whole]

theorem final12 (c : Dev nD) : (dats m 0 c).arrAt 12 cfg0.N =
    (truncf .bf16 (m ((c : Thread nD τ).loc main_arg4) : FVec Ideal S1024x1024 .f32) bitsLt_bf16_f32 : FVec Ideal S1024x1024 .bf16) := by
  refine (dats m 0 c).arrAt_eq_of_covers 12 _ (by decide +kernel) fun t hf y => ?_
  blk_simp
  rw [after0_12, cast12]
  pointwise []
  blk_ext [iblk, V, idxW t]

theorem cast13 (c : Dev nD) (t : Fin cfg0.N) (y : S128x2048.Idx) :
    (outsAt0 m c t).2.2.1 y = (truncf .bf16 (iblk m c 7 t : FVec Ideal S128x2048 .f32) bitsLt_bf16_f32 : FVec Ideal S128x2048 .bf16) y := by
  have e : (outsAt0 m c t).2.2.1 = VO0_13.read (Elt Ideal) (VO0_13.writes (Elt Ideal) VO0_13.junk
    (runAt t (iblk m c 0 t) (iblk m c 1 t) (iblk m c 2 t) (iblk m c 3 t) (iblk m c 4 t) (iblk m c 5 t) c (iblk m c 6 t) (iblk m c 7 t)
      (iblk m c 8 t) (iblk m c 9 t) (iblk m c 10 t)).2.2.1) := by
    sl_kernel_rfl
  have hp : (runAt t (iblk m c 0 t) (iblk m c 1 t) (iblk m c 2 t) (iblk m c 3 t) (iblk m c 4 t) (iblk m c 5 t) c (iblk m c 6 t)
      (iblk m c 7 t) (iblk m c 8 t) (iblk m c 9 t) (iblk m c 10 t)).2.2.1 = [⟨Rect.unit (s := S128x2048) ![0, 0] S128x2048.size inb_S128x2048_S128x2048_0_0,
      k0_pay1324 ((ms0_7 t).view.readAt (Elt Ideal) (Rect.unit (s := S128x2048) ![0, 0] S128x2048.size inb_S128x2048_S128x2048_0_0).toLoadRect
        ((hs0_7 t).unread (iblk m c 7 t)))⟩] := by
    sl_kernel_rfl
  rw [e, View.read_writes_junk_apply_eq_canon, hp]
  refine (congrArg (View.canon _) (idx_whole inb_S128x2048_S128x2048_0_0 y).symm).trans ((View.canon_cons_emb _ _ _ _).trans ?_)
  unfold k0_pay1324
  pointwise []
  rw [Memref.IsWhole.readAt_unread, idx_whole]

theorem final13 (c : Dev nD) : (dats m 0 c).arrAt 13 cfg0.N =
    (truncf .bf16 (m ((c : Thread nD τ).loc main_arg5) : FVec Ideal S2048x2048 .f32) bitsLt_bf16_f32 : FVec Ideal S2048x2048 .bf16) := by
  refine (dats m 0 c).arrAt_eq_of_covers 13 _ (by decide +kernel) fun t hf y => ?_
  blk_simp
  rw [after0_13, cast13]
  pointwise []
  blk_ext [iblk, V, idxW t]

theorem cast14 (c : Dev nD) (t : Fin cfg0.N) (y : S128x5632.Idx) :
    (outsAt0 m c t).2.2.2.1 y = (truncf .bf16 (iblk m c 8 t : FVec Ideal S128x5632 .f32) bitsLt_bf16_f32 : FVec Ideal S128x5632 .bf16) y := by
  have e : (outsAt0 m c t).2.2.2.1 = VO0_14.read (Elt Ideal) (VO0_14.writes (Elt Ideal) VO0_14.junk
    (runAt t (iblk m c 0 t) (iblk m c 1 t) (iblk m c 2 t) (iblk m c 3 t) (iblk m c 4 t) (iblk m c 5 t) c (iblk m c 6 t) (iblk m c 7 t)
      (iblk m c 8 t) (iblk m c 9 t) (iblk m c 10 t)).2.2.2.1) := by
    sl_kernel_rfl
  have hp : (runAt t (iblk m c 0 t) (iblk m c 1 t) (iblk m c 2 t) (iblk m c 3 t) (iblk m c 4 t) (iblk m c 5 t) c (iblk m c 6 t)
      (iblk m c 7 t) (iblk m c 8 t) (iblk m c 9 t) (iblk m c 10 t)).2.2.2.1 = [⟨Rect.unit (s := S128x5632) ![0, 0] S128x5632.size inb_S128x5632_S128x5632_0_0,
      k0_pay1325 ((ms0_8 t).view.readAt (Elt Ideal) (Rect.unit (s := S128x5632) ![0, 0] S128x5632.size inb_S128x5632_S128x5632_0_0).toLoadRect
        ((hs0_8 t).unread (iblk m c 8 t)))⟩] := by
    sl_kernel_rfl
  rw [e, View.read_writes_junk_apply_eq_canon, hp]
  refine (congrArg (View.canon _) (idx_whole inb_S128x5632_S128x5632_0_0 y).symm).trans ((View.canon_cons_emb _ _ _ _).trans ?_)
  unfold k0_pay1325
  pointwise []
  rw [Memref.IsWhole.readAt_unread, idx_whole]

theorem final14 (c : Dev nD) : (dats m 0 c).arrAt 14 cfg0.N =
    (truncf .bf16 (m ((c : Thread nD τ).loc main_arg6) : FVec Ideal S2048x5632 .f32) bitsLt_bf16_f32 : FVec Ideal S2048x5632 .bf16) := by
  refine (dats m 0 c).arrAt_eq_of_covers 14 _ (by decide +kernel) fun t hf y => ?_
  blk_simp
  rw [after0_14, cast14]
  pointwise []
  blk_ext [iblk, V, idxW t]

theorem cast15 (c : Dev nD) (t : Fin cfg0.N) (y : S128x5632.Idx) :
    (outsAt0 m c t).2.2.2.2.1 y = (truncf .bf16 (iblk m c 9 t : FVec Ideal S128x5632 .f32) bitsLt_bf16_f32 : FVec Ideal S128x5632 .bf16) y := by
  have e : (outsAt0 m c t).2.2.2.2.1 = VO0_15.read (Elt Ideal) (VO0_15.writes (Elt Ideal) VO0_15.junk
    (runAt t (iblk m c 0 t) (iblk m c 1 t) (iblk m c 2 t) (iblk m c 3 t) (iblk m c 4 t) (iblk m c 5 t) c (iblk m c 6 t) (iblk m c 7 t)
      (iblk m c 8 t) (iblk m c 9 t) (iblk m c 10 t)).2.2.2.2.1) := by
    sl_kernel_rfl
  have hp : (runAt t (iblk m c 0 t) (iblk m c 1 t) (iblk m c 2 t) (iblk m c 3 t) (iblk m c 4 t) (iblk m c 5 t) c (iblk m c 6 t)
      (iblk m c 7 t) (iblk m c 8 t) (iblk m c 9 t) (iblk m c 10 t)).2.2.2.2.1 = [⟨Rect.unit (s := S128x5632) ![0, 0] S128x5632.size inb_S128x5632_S128x5632_0_0,
      k0_pay1326 ((ms0_9 t).view.readAt (Elt Ideal) (Rect.unit (s := S128x5632) ![0, 0] S128x5632.size inb_S128x5632_S128x5632_0_0).toLoadRect
        ((hs0_9 t).unread (iblk m c 9 t)))⟩] := by
    sl_kernel_rfl
  rw [e, View.read_writes_junk_apply_eq_canon, hp]
  refine (congrArg (View.canon _) (idx_whole inb_S128x5632_S128x5632_0_0 y).symm).trans ((View.canon_cons_emb _ _ _ _).trans ?_)
  unfold k0_pay1326
  pointwise []
  rw [Memref.IsWhole.readAt_unread, idx_whole]

theorem final15 (c : Dev nD) : (dats m 0 c).arrAt 15 cfg0.N =
    (truncf .bf16 (m ((c : Thread nD τ).loc main_arg7) : FVec Ideal S2048x5632 .f32) bitsLt_bf16_f32 : FVec Ideal S2048x5632 .bf16) := by
  refine (dats m 0 c).arrAt_eq_of_covers 15 _ (by decide +kernel) fun t hf y => ?_
  blk_simp
  rw [after0_15, cast15]
  pointwise []
  blk_ext [iblk, V, idxW t]

theorem cast16 (c : Dev nD) (t : Fin cfg0.N) (y : S352x2048.Idx) :
    (outsAt0 m c t).2.2.2.2.2 y = (truncf .bf16 (iblk m c 10 t : FVec Ideal S352x2048 .f32) bitsLt_bf16_f32 : FVec Ideal S352x2048 .bf16) y := by
  have e : (outsAt0 m c t).2.2.2.2.2 = VO0_16.read (Elt Ideal) (VO0_16.writes (Elt Ideal) VO0_16.junk
    (runAt t (iblk m c 0 t) (iblk m c 1 t) (iblk m c 2 t) (iblk m c 3 t) (iblk m c 4 t) (iblk m c 5 t) c (iblk m c 6 t) (iblk m c 7 t)
      (iblk m c 8 t) (iblk m c 9 t) (iblk m c 10 t)).2.2.2.2.2.1) := by
    sl_kernel_rfl
  have hp : (runAt t (iblk m c 0 t) (iblk m c 1 t) (iblk m c 2 t) (iblk m c 3 t) (iblk m c 4 t) (iblk m c 5 t) c (iblk m c 6 t)
      (iblk m c 7 t) (iblk m c 8 t) (iblk m c 9 t) (iblk m c 10 t)).2.2.2.2.2.1 = [⟨Rect.unit (s := S352x2048) ![0, 0] S352x2048.size inb_S352x2048_S352x2048_0_0,
      k0_pay1 ((ms0_10 t).view.readAt (Elt Ideal) (Rect.unit (s := S352x2048) ![0, 0] S352x2048.size inb_S352x2048_S352x2048_0_0).toLoadRect
        ((hs0_10 t).unread (iblk m c 10 t)))⟩] := by
    sl_kernel_rfl
  rw [e, View.read_writes_junk_apply_eq_canon, hp]
  refine (congrArg (View.canon _) (idx_whole inb_S352x2048_S352x2048_0_0 y).symm).trans ((View.canon_cons_emb _ _ _ _).trans ?_)
  unfold k0_pay1
  pointwise []
  rw [Memref.IsWhole.readAt_unread, idx_whole]

theorem final16 (c : Dev nD) : (dats m 0 c).arrAt 16 cfg0.N =
    (truncf .bf16 (m ((c : Thread nD τ).loc main_arg8) : FVec Ideal S5632x2048 .f32) bitsLt_bf16_f32 : FVec Ideal S5632x2048 .bf16) := by
  refine (dats m 0 c).arrAt_eq_of_covers 16 _ (by decide +kernel) fun t hf y => ?_
  blk_simp
  rw [after0_16, cast16]
  pointwise []
  blk_ext [iblk, V, idxW t]

end Cert.KernelIdeal.Hand

namespace Cert.Layer

open Idealize.ShloMosaic

theorem finite_of_lt {s : Shape} (x b : FVec Ideal s .f32) (i : s.Idx) (hb : b i = ⊤) (h : cmpf .olt (Host.absf x) b i = 1#1) : Finite (x i) := by
  have h' : BitVec.ofBool (decide (max (x i) (-(x i)) < (b i : EReal))) = 1#1 := by
    rw [← h]
    pointwise []
    rfl
  rw [hb] at h'
  have hl : max (x i : EReal) (-(x i)) < ⊤ := by
    by_contra hn
    rw [decide_eq_false hn] at h'
    exact absurd h' (by decide)
  constructor
  · intro e
    rw [e] at hl
    simp at hl
  · intro e
    rw [e] at hl
    simp at hl

theorem infty {s : Shape} (h : (⟨0, ![]⟩ : Shape).BroadcastsInDim s (![] : Fin 0 → Fin s.rank)) (i : s.Idx) :
    (broadcastInDim s ![] h (constant ⟨0, ![]⟩ .f32 0x7F800000#32 : FVec Ideal ⟨0, ![]⟩ .f32) : FVec Ideal s .f32) i = ⊤ := by
  show Ideal.ofBits .f32 0x7F800000#32 = ⊤
  simp [Ideal.ofBits, Ideal.ieee]

/-- What the precondition says of the arguments it names. -/
theorem finite_args [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ h : Fin 16, Finite (m ((c.tc : Thread Cert.KernelIdeal.nD Cert.KernelIdeal.τ).loc Cert.KernelIdeal.main_arg0) (ix1 h)))
    ∧ (∀ (i : Fin 1024) (j : Fin 32768), Finite (m ((c.tc : Thread Cert.KernelIdeal.nD Cert.KernelIdeal.τ).loc Cert.KernelIdeal.main_arg1) (ix2 i j)))
    ∧ (∀ (i : Fin 32768) (j : Fin 128), Finite (m ((c.tc : Thread Cert.KernelIdeal.nD Cert.KernelIdeal.τ).loc Cert.KernelIdeal.main_arg2) (ix2 i j))) := by
  obtain ⟨h0, h1, h2⟩ := h c
  refine ⟨fun k => ?_, fun i j => ?_, fun i j => ?_⟩
  · exact finite_of_lt _ _ (ix1 k) (infty _ _) (congrFun h0 (ix1 k))
  · exact finite_of_lt (extf .f32 (m ((c.tc : Thread Cert.KernelIdeal.nD Cert.KernelIdeal.τ).loc Cert.KernelIdeal.main_arg1)) Cert.Pre_finite.Facts.bitsLt_bf16_f32)
      _ (ix2 i j) (infty _ _) (congrFun h1 (ix2 i j))
  · exact finite_of_lt (extf .f32 (m ((c.tc : Thread Cert.KernelIdeal.nD Cert.KernelIdeal.τ).loc Cert.KernelIdeal.main_arg2)) Cert.Pre_finite.Facts.bitsLt_bf16_f32)
      _ (ix2 i j) (infty _ _) (congrFun h2 (ix2 i j))

end Cert.Layer

namespace Cert.ReferenceIdeal.Hand

open Cert.ReferenceIdeal Cert.ReferenceIdeal.Gen Cert.Layer
open Idealize.ShloMosaic Idealize.ShloMosaic.TcCoe Idealize.SL.Sem

/-- The reference's attention is the same array. -/
theorem res_eq (m : (ℓ : Loc nD τ sig) → Buf (Elt Ideal) ℓ) (c : Dev nD) : Value.res_out0 m c =
    Cert.KernelIdeal.Hand.whole (m ((c.tc : Thread nD τ).loc main_arg0)) (m ((c.tc : Thread nD τ).loc main_arg1))
      (m ((c.tc : Thread nD τ).loc main_arg2)) (m ((c.tc : Thread nD τ).loc main_arg3)) := by
  funext i
  obtain ⟨r, l, rfl⟩ : ∃ (r : Fin 32768) (l : Fin 1024), i = ix2 r l := ⟨i 0, i 1, eq_ix2 i⟩
  exact res_apply m c r l

end Cert.ReferenceIdeal.Hand

end
-- ==== Proof.FfnNames.lean ====
/-
  The feed-forward kernel's ring of weights: names for its slots, their cells and the blocks of the weight arrays, and the
  offsets the kernel computes, in closed form. Chunk `11 i + k` is trip `k` of grid point `i`; it lies in slot
  `(11 i + k) % 2`, and brings block `k` of each of the three arrays.
-/
module

public import proofs.«01_k».proof.Proof.Gen.Kernel2Ideal.Launch
public import proofs.«01_k».proof.Proof.Gen.Kernel2Ideal.Skeleton
public import proofs.«01_k».proof.Proof.Gen.Kernel2Ideal.Loops
public import proofs.«01_k».proof.Proof.Gen.Kernel2Ideal.Points
public import proofs.«01_k».proof.Proof.Gen.Kernel2Ideal.Frame
public import Idealize.ShloMosaic.Lib.Pipeline.KitQuiescent
public import Idealize.ShloMosaic.Lib.Pipeline.Routed
public import Idealize.ShloMosaic.Lib.Ring
public import Idealize.ShloMosaic.Lib.Affine
public import Idealize.ShloMosaic.Lib.Tactic

@[expose] public section

noncomputable section

namespace Cert.Kernel2Ideal.Hand

open Cert.Kernel2Ideal Cert.Kernel2Ideal.Gen
open Idealize.ShloMosaic Idealize.ShloMosaic.TcCoe Idealize.ShloMosaic.Tactic

/-! ## The buffers, the slots, the cells, the blocks -/

abbrev gH : Memref sig .tc .hbm S2048x5632 .bf16 := Memref.whole main_arg1
abbrev uH : Memref sig .tc .hbm S2048x5632 .bf16 := Memref.whole main_arg2
abbrev dH : Memref sig .tc .hbm S5632x2048 .bf16 := Memref.whole main_arg3
abbrev gV : Memref sig .tc .vmem S2x2048x512 .bf16 := Memref.whole cc0_scratch0
abbrev uV : Memref sig .tc .vmem S2x2048x512 .bf16 := Memref.whole cc0_scratch1
abbrev dV : Memref sig .tc .vmem S2x512x2048 .bf16 := Memref.whole cc0_scratch2

abbrev slotOff (s : Fin 2) : Fin 3 → Nat := ![s.val, 0, 0]
abbrev colOff (b : Fin 11) : Fin 2 → Nat := ![0, 512 * b.val]
abbrev rowOff (b : Fin 11) : Fin 2 → Nat := ![512 * b.val, 0]
abbrev cellOff (r : Fin 3) (s : Fin 2) : Fin 2 → Nat := ![r.val, s.val]

theorem slotOff_inb (s : Fin 2) : ∀ a, slotOff s a + S1x2048x512.size a ≤ S2x2048x512.size a := by revert s; decide
theorem slotOffD_inb (s : Fin 2) : ∀ a, slotOff s a + S1x512x2048.size a ≤ S2x512x2048.size a := by revert s; decide
theorem colOff_inb (b : Fin 11) : ∀ a, colOff b a + S2048x512.size a ≤ S2048x5632.size a := by revert b; decide
theorem rowOff_inb (b : Fin 11) : ∀ a, rowOff b a + S512x2048.size a ≤ S5632x2048.size a := by revert b; decide
theorem cellOff_inb (r : Fin 3) (s : Fin 2) : ∀ a, cellOff r s a + S1x1.size a ≤ S3x2.size a := by revert r s; decide

instance (s : Fin 2) : ClosedOff (slotOff s) := ⟨slotOff s, rfl⟩
instance (b : Fin 11) : ClosedOff (colOff b) := ⟨colOff b, rfl⟩
instance (b : Fin 11) : ClosedOff (rowOff b) := ⟨rowOff b, rfl⟩

/-- Slot `s` of each buffer. -/
def gS (s : Fin 2) : Memref sig .tc .vmem S2048x512 .bf16 :=
  (gV.slice (Rect.unit (s := S2x2048x512) (slotOff s) S1x2048x512.size (slotOff_inb s)) (fun _ => rfl)).squeeze S2048x512 squeezes_S1x2048x512_S2048x512
def uS (s : Fin 2) : Memref sig .tc .vmem S2048x512 .bf16 :=
  (uV.slice (Rect.unit (s := S2x2048x512) (slotOff s) S1x2048x512.size (slotOff_inb s)) (fun _ => rfl)).squeeze S2048x512 squeezes_S1x2048x512_S2048x512
def dS (s : Fin 2) : Memref sig .tc .vmem S512x2048 .bf16 :=
  (dV.slice (Rect.unit (s := S2x512x2048) (slotOff s) S1x512x2048.size (slotOffD_inb s)) (fun _ => rfl)).squeeze S512x2048 squeezes_S1x512x2048_S512x2048
/-- Block `b` of each array. -/
def gB (b : Fin 11) : Memref sig .tc .hbm S2048x512 .bf16 := gH.slice (Rect.unit (s := S2048x5632) (colOff b) S2048x512.size (colOff_inb b)) (fun _ => rfl)
def uB (b : Fin 11) : Memref sig .tc .hbm S2048x512 .bf16 := uH.slice (Rect.unit (s := S2048x5632) (colOff b) S2048x512.size (colOff_inb b)) (fun _ => rfl)
def dB (b : Fin 11) : Memref sig .tc .hbm S512x2048 .bf16 := dH.slice (Rect.unit (s := S5632x2048) (rowOff b) S512x2048.size (rowOff_inb b)) (fun _ => rfl)
/-- Array `r`'s cell for slot `s`. -/
def cell (r : Fin 3) (s : Fin 2) : DmaSems sig S_ :=
  (cc0_scratch3.slice (Rect.unit (s := S3x2) (cellOff r s) S1x1.size (cellOff_inb r s))).squeeze S_ squeezes_S1x1_S_

/-! ## The offsets in closed form -/

/-- The chunk of trip `k` at point `i`. -/
abbrev qq (i : grid0.Coords) (k : Fin k0_t1_loop.trips) : ℕ := 11 * (i 0).val + k.val

abbrev crd (a : Fin 32) : grid0.Coords := fun b => ⟨a.val, by fin_cases b; exact a.isLt⟩

theorem off1_eq (i : grid0.Coords) (k : Fin k0_t1_loop.trips) : k0_off1 i k = cellOff 0 (Ring.sl 2 (qq i k)) :=
  (by decide +kernel : ∀ (a : Fin 32) (k : Fin k0_t1_loop.trips), k0_off1 (crd a) k = cellOff 0 (Ring.sl 2 (11 * a.val + k.val))) (i 0) k
theorem off4_eq (i : grid0.Coords) (k : Fin k0_t1_loop.trips) : k0_off4 i k = cellOff 1 (Ring.sl 2 (qq i k)) :=
  (by decide +kernel : ∀ (a : Fin 32) (k : Fin k0_t1_loop.trips), k0_off4 (crd a) k = cellOff 1 (Ring.sl 2 (11 * a.val + k.val))) (i 0) k
theorem off5_eq (i : grid0.Coords) (k : Fin k0_t1_loop.trips) : k0_off5 i k = cellOff 2 (Ring.sl 2 (qq i k)) :=
  (by decide +kernel : ∀ (a : Fin 32) (k : Fin k0_t1_loop.trips), k0_off5 (crd a) k = cellOff 2 (Ring.sl 2 (11 * a.val + k.val))) (i 0) k
theorem off2_eq (i : grid0.Coords) (k : Fin k0_t1_loop.trips) : k0_off2 i k = slotOff (Ring.sl 2 (qq i k)) :=
  (by decide +kernel : ∀ (a : Fin 32) (k : Fin k0_t1_loop.trips), k0_off2 (crd a) k = slotOff (Ring.sl 2 (11 * a.val + k.val))) (i 0) k
theorem off6_eq (i : grid0.Coords) (k : Fin k0_t1_loop.trips) : k0_off6 i k = slotOff (Ring.sl 2 (qq i k)) :=
  (by decide +kernel : ∀ (a : Fin 32) (k : Fin k0_t1_loop.trips), k0_off6 (crd a) k = slotOff (Ring.sl 2 (11 * a.val + k.val))) (i 0) k
theorem off3_eq (k : Fin k0_t1_loop.trips) : k0_off3 k = colOff (Ring.bk 11 k.val) :=
  (by decide +kernel : ∀ k : Fin k0_t1_loop.trips, k0_off3 k = colOff (Ring.bk 11 k.val)) k
theorem off7_eq (k : Fin k0_t1_loop.trips) : k0_off7 k = rowOff (Ring.bk 11 k.val) :=
  (by decide +kernel : ∀ k : Fin k0_t1_loop.trips, k0_off7 k = rowOff (Ring.bk 11 k.val)) k
theorem off8_eq (i : grid0.Coords) (k : Fin k0_t1_loop.trips) : k0_off8 i k = cellOff 0 (Ring.sl 2 (qq i k + 1)) :=
  (by decide +kernel : ∀ (a : Fin 32) (k : Fin k0_t1_loop.trips), k0_off8 (crd a) k = cellOff 0 (Ring.sl 2 (11 * a.val + k.val + 1))) (i 0) k
theorem off11_eq (i : grid0.Coords) (k : Fin k0_t1_loop.trips) : k0_off11 i k = cellOff 1 (Ring.sl 2 (qq i k + 1)) :=
  (by decide +kernel : ∀ (a : Fin 32) (k : Fin k0_t1_loop.trips), k0_off11 (crd a) k = cellOff 1 (Ring.sl 2 (11 * a.val + k.val + 1))) (i 0) k
theorem off12_eq (i : grid0.Coords) (k : Fin k0_t1_loop.trips) : k0_off12 i k = cellOff 2 (Ring.sl 2 (qq i k + 1)) :=
  (by decide +kernel : ∀ (a : Fin 32) (k : Fin k0_t1_loop.trips), k0_off12 (crd a) k = cellOff 2 (Ring.sl 2 (11 * a.val + k.val + 1))) (i 0) k
theorem off9_eq (i : grid0.Coords) (k : Fin k0_t1_loop.trips) : k0_off9 i k = slotOff (Ring.sl 2 (qq i k + 1)) :=
  (by decide +kernel : ∀ (a : Fin 32) (k : Fin k0_t1_loop.trips), k0_off9 (crd a) k = slotOff (Ring.sl 2 (11 * a.val + k.val + 1))) (i 0) k
theorem off13_eq (i : grid0.Coords) (k : Fin k0_t1_loop.trips) : k0_off13 i k = slotOff (Ring.sl 2 (qq i k + 1)) :=
  (by decide +kernel : ∀ (a : Fin 32) (k : Fin k0_t1_loop.trips), k0_off13 (crd a) k = slotOff (Ring.sl 2 (11 * a.val + k.val + 1))) (i 0) k
theorem off10_eq (k : Fin k0_t1_loop.trips) : k0_off10 k = colOff (Ring.bk 11 (k.val + 1)) :=
  (by decide +kernel : ∀ k : Fin k0_t1_loop.trips, k0_off10 k = colOff (Ring.bk 11 (k.val + 1))) k
theorem off14_eq (k : Fin k0_t1_loop.trips) : k0_off14 k = rowOff (Ring.bk 11 (k.val + 1)) :=
  (by decide +kernel : ∀ k : Fin k0_t1_loop.trips, k0_off14 k = rowOff (Ring.bk 11 (k.val + 1))) k
theorem off15_eq (i : grid0.Coords) (k : Fin k0_t1_loop.trips) : k0_off15 i k = ![(Ring.sl 2 (qq i k)).val, 0, 0] :=
  (by decide +kernel : ∀ (a : Fin 32) (k : Fin k0_t1_loop.trips), k0_off15 (crd a) k = ![(Ring.sl 2 (11 * a.val + k.val)).val, 0, 0]) (i 0) k
theorem off16_eq (i : grid0.Coords) (k : Fin k0_t1_loop.trips) : k0_off16 i k = ![(Ring.sl 2 (qq i k)).val, 0, 256] :=
  (by decide +kernel : ∀ (a : Fin 32) (k : Fin k0_t1_loop.trips), k0_off16 (crd a) k = ![(Ring.sl 2 (11 * a.val + k.val)).val, 0, 256]) (i 0) k
theorem off17_eq (i : grid0.Coords) (k : Fin k0_t1_loop.trips) : k0_off17 i k = ![(Ring.sl 2 (qq i k)).val, 0, 0] :=
  (by decide +kernel : ∀ (a : Fin 32) (k : Fin k0_t1_loop.trips), k0_off17 (crd a) k = ![(Ring.sl 2 (11 * a.val + k.val)).val, 0, 0]) (i 0) k
theorem off18_eq (i : grid0.Coords) (k : Fin k0_t1_loop.trips) : k0_off18 i k = ![(Ring.sl 2 (qq i k)).val, 256, 0] :=
  (by decide +kernel : ∀ (a : Fin 32) (k : Fin k0_t1_loop.trips), k0_off18 (crd a) k = ![(Ring.sl 2 (11 * a.val + k.val)).val, 256, 0]) (i 0) k
theorem trips_eq : k0_t1_loop.trips = 11 := by decide +kernel
/-- The next chunk is fetched unless this one is the last. -/
theorem cond2_iff (i : grid0.Coords) (k : Fin k0_t1_loop.trips) : k0_cond2 i k = 1#1 ↔ qq i k + 1 < 352 :=
  (by decide +kernel : ∀ (a : Fin 32) (k : Fin k0_t1_loop.trips), k0_cond2 (crd a) k = 1#1 ↔ 11 * a.val + k.val + 1 < 352) (i 0) k
theorem cond1_iff (i : grid0.Coords) : k0_cond1 i = 1#1 ↔ (i 0).val = 0 :=
  (by decide +kernel : ∀ a : Fin 32, k0_cond1 (crd a) = 1#1 ↔ a.val = 0) (i 0)

instance (i : grid0.Coords) (k : Fin k0_t1_loop.trips) : ClosedOff (k0_off2 i k) := ⟨_, off2_eq i k⟩
instance (i : grid0.Coords) (k : Fin k0_t1_loop.trips) : ClosedOff (k0_off6 i k) := ⟨_, off6_eq i k⟩
instance (i : grid0.Coords) (k : Fin k0_t1_loop.trips) : ClosedOff (k0_off9 i k) := ⟨_, off9_eq i k⟩
instance (i : grid0.Coords) (k : Fin k0_t1_loop.trips) : ClosedOff (k0_off13 i k) := ⟨_, off13_eq i k⟩
instance (i : grid0.Coords) (k : Fin k0_t1_loop.trips) : ClosedOff (k0_off15 i k) := ⟨_, off15_eq i k⟩
instance (i : grid0.Coords) (k : Fin k0_t1_loop.trips) : ClosedOff (k0_off16 i k) := ⟨_, off16_eq i k⟩
instance (i : grid0.Coords) (k : Fin k0_t1_loop.trips) : ClosedOff (k0_off17 i k) := ⟨_, off17_eq i k⟩
instance (i : grid0.Coords) (k : Fin k0_t1_loop.trips) : ClosedOff (k0_off18 i k) := ⟨_, off18_eq i k⟩

/-! ## The kernel's slices are these names -/

theorem cell_congr {off : Fin 2 → Nat} {r : Fin 3} {s : Fin 2} (e : off = cellOff r s) (hh) :
    (cc0_scratch3.slice (Rect.unit (s := S3x2) off S1x1.size hh)).squeeze S_ squeezes_S1x1_S_ = cell r s :=
  congrArg (fun A : DmaSems sig S1x1 => A.squeeze S_ squeezes_S1x1_S_) (SemArray.slice_unit_congr _ e _ _)
theorem gS_congr {off : Fin 3 → Nat} {s : Fin 2} (e : off = slotOff s) (hh hs) :
    (gV.slice (Rect.unit (s := S2x2048x512) off S1x2048x512.size hh) hs).squeeze S2048x512 squeezes_S1x2048x512_S2048x512 = gS s :=
  congrArg (fun M : Memref sig .tc .vmem S1x2048x512 .bf16 => M.squeeze S2048x512 squeezes_S1x2048x512_S2048x512) (Memref.slice_unit_congr _ e _ _ _ _)
theorem uS_congr {off : Fin 3 → Nat} {s : Fin 2} (e : off = slotOff s) (hh hs) :
    (uV.slice (Rect.unit (s := S2x2048x512) off S1x2048x512.size hh) hs).squeeze S2048x512 squeezes_S1x2048x512_S2048x512 = uS s :=
  congrArg (fun M : Memref sig .tc .vmem S1x2048x512 .bf16 => M.squeeze S2048x512 squeezes_S1x2048x512_S2048x512) (Memref.slice_unit_congr _ e _ _ _ _)
theorem dS_congr {off : Fin 3 → Nat} {s : Fin 2} (e : off = slotOff s) (hh hs) :
    (dV.slice (Rect.unit (s := S2x512x2048) off S1x512x2048.size hh) hs).squeeze S512x2048 squeezes_S1x512x2048_S512x2048 = dS s :=
  congrArg (fun M : Memref sig .tc .vmem S1x512x2048 .bf16 => M.squeeze S512x2048 squeezes_S1x512x2048_S512x2048) (Memref.slice_unit_congr _ e _ _ _ _)
theorem gB_congr {off : Fin 2 → Nat} {b : Fin 11} (e : off = colOff b) (hh hs) :
    gH.slice (Rect.unit (s := S2048x5632) off S2048x512.size hh) hs = gB b := Memref.slice_unit_congr _ e _ _ _ (fun _ => rfl)
theorem uB_congr {off : Fin 2 → Nat} {b : Fin 11} (e : off = colOff b) (hh hs) :
    uH.slice (Rect.unit (s := S2048x5632) off S2048x512.size hh) hs = uB b := Memref.slice_unit_congr _ e _ _ _ (fun _ => rfl)
theorem dB_congr {off : Fin 2 → Nat} {b : Fin 11} (e : off = rowOff b) (hh hs) :
    dH.slice (Rect.unit (s := S5632x2048) off S512x2048.size hh) hs = dB b := Memref.slice_unit_congr _ e _ _ _ (fun _ => rfl)

-- the first point's own fetch of chunk 0
@[sl_canon] theorem cell00 (hh) : (cc0_scratch3.slice (Rect.unit (s := S3x2) ![0, 0] S1x1.size hh)).squeeze S_ squeezes_S1x1_S_ = cell 0 0 := cell_congr (by decide) _
@[sl_canon] theorem cell10 (hh) : (cc0_scratch3.slice (Rect.unit (s := S3x2) ![1, 0] S1x1.size hh)).squeeze S_ squeezes_S1x1_S_ = cell 1 0 := cell_congr (by decide) _
@[sl_canon] theorem cell20 (hh) : (cc0_scratch3.slice (Rect.unit (s := S3x2) ![2, 0] S1x1.size hh)).squeeze S_ squeezes_S1x1_S_ = cell 2 0 := cell_congr (by decide) _
@[sl_canon] theorem gS0 (hh hs) : (gV.slice (Rect.unit (s := S2x2048x512) ![0, 0, 0] S1x2048x512.size hh) hs).squeeze S2048x512 squeezes_S1x2048x512_S2048x512 = gS 0 := gS_congr (by decide) _ _
@[sl_canon] theorem uS0 (hh hs) : (uV.slice (Rect.unit (s := S2x2048x512) ![0, 0, 0] S1x2048x512.size hh) hs).squeeze S2048x512 squeezes_S1x2048x512_S2048x512 = uS 0 := uS_congr (by decide) _ _
@[sl_canon] theorem dS0 (hh hs) : (dV.slice (Rect.unit (s := S2x512x2048) ![0, 0, 0] S1x512x2048.size hh) hs).squeeze S512x2048 squeezes_S1x512x2048_S512x2048 = dS 0 := dS_congr (by decide) _ _
@[sl_canon] theorem gB0 (hh hs) : gH.slice (Rect.unit (s := S2048x5632) ![0, 0] S2048x512.size hh) hs = gB 0 := gB_congr (by decide) _ _
@[sl_canon] theorem uB0 (hh hs) : uH.slice (Rect.unit (s := S2048x5632) ![0, 0] S2048x512.size hh) hs = uB 0 := uB_congr (by decide) _ _
@[sl_canon] theorem dB0 (hh hs) : dH.slice (Rect.unit (s := S5632x2048) ![0, 0] S512x2048.size hh) hs = dB 0 := dB_congr (by decide) _ _

-- a trip's waits
section Trip
variable (i : grid0.Coords) (k : Fin k0_t1_loop.trips)
@[sl_canon] theorem cellW0 (hh) : (cc0_scratch3.slice (Rect.unit (s := S3x2) (k0_off1 i k) S1x1.size hh)).squeeze S_ squeezes_S1x1_S_ = cell 0 (Ring.sl 2 (qq i k)) := cell_congr (off1_eq i k) _
@[sl_canon] theorem cellW1 (hh) : (cc0_scratch3.slice (Rect.unit (s := S3x2) (k0_off4 i k) S1x1.size hh)).squeeze S_ squeezes_S1x1_S_ = cell 1 (Ring.sl 2 (qq i k)) := cell_congr (off4_eq i k) _
@[sl_canon] theorem cellW2 (hh) : (cc0_scratch3.slice (Rect.unit (s := S3x2) (k0_off5 i k) S1x1.size hh)).squeeze S_ squeezes_S1x1_S_ = cell 2 (Ring.sl 2 (qq i k)) := cell_congr (off5_eq i k) _
@[sl_canon] theorem gSW (hh hs) : (gV.slice (Rect.unit (s := S2x2048x512) (k0_off2 i k) S1x2048x512.size hh) hs).squeeze S2048x512 squeezes_S1x2048x512_S2048x512 = gS (Ring.sl 2 (qq i k)) := gS_congr (off2_eq i k) _ _
@[sl_canon] theorem uSW (hh hs) : (uV.slice (Rect.unit (s := S2x2048x512) (k0_off2 i k) S1x2048x512.size hh) hs).squeeze S2048x512 squeezes_S1x2048x512_S2048x512 = uS (Ring.sl 2 (qq i k)) := uS_congr (off2_eq i k) _ _
@[sl_canon] theorem dSW (hh hs) : (dV.slice (Rect.unit (s := S2x512x2048) (k0_off6 i k) S1x512x2048.size hh) hs).squeeze S512x2048 squeezes_S1x512x2048_S512x2048 = dS (Ring.sl 2 (qq i k)) := dS_congr (off6_eq i k) _ _
@[sl_canon] theorem gBW (hh hs) : gH.slice (Rect.unit (s := S2048x5632) (k0_off3 k) S2048x512.size hh) hs = gB (Ring.bk 11 k.val) := gB_congr (off3_eq k) _ _
@[sl_canon] theorem uBW (hh hs) : uH.slice (Rect.unit (s := S2048x5632) (k0_off3 k) S2048x512.size hh) hs = uB (Ring.bk 11 k.val) := uB_congr (off3_eq k) _ _
@[sl_canon] theorem dBW (hh hs) : dH.slice (Rect.unit (s := S5632x2048) (k0_off7 k) S512x2048.size hh) hs = dB (Ring.bk 11 k.val) := dB_congr (off7_eq k) _ _
-- a trip's fetch of the next chunk
@[sl_canon] theorem cellN0 (hh) : (cc0_scratch3.slice (Rect.unit (s := S3x2) (k0_off8 i k) S1x1.size hh)).squeeze S_ squeezes_S1x1_S_ = cell 0 (Ring.sl 2 (qq i k + 1)) := cell_congr (off8_eq i k) _
@[sl_canon] theorem cellN1 (hh) : (cc0_scratch3.slice (Rect.unit (s := S3x2) (k0_off11 i k) S1x1.size hh)).squeeze S_ squeezes_S1x1_S_ = cell 1 (Ring.sl 2 (qq i k + 1)) := cell_congr (off11_eq i k) _
@[sl_canon] theorem cellN2 (hh) : (cc0_scratch3.slice (Rect.unit (s := S3x2) (k0_off12 i k) S1x1.size hh)).squeeze S_ squeezes_S1x1_S_ = cell 2 (Ring.sl 2 (qq i k + 1)) := cell_congr (off12_eq i k) _
@[sl_canon] theorem gSN (hh hs) : (gV.slice (Rect.unit (s := S2x2048x512) (k0_off9 i k) S1x2048x512.size hh) hs).squeeze S2048x512 squeezes_S1x2048x512_S2048x512 = gS (Ring.sl 2 (qq i k + 1)) := gS_congr (off9_eq i k) _ _
@[sl_canon] theorem uSN (hh hs) : (uV.slice (Rect.unit (s := S2x2048x512) (k0_off9 i k) S1x2048x512.size hh) hs).squeeze S2048x512 squeezes_S1x2048x512_S2048x512 = uS (Ring.sl 2 (qq i k + 1)) := uS_congr (off9_eq i k) _ _
@[sl_canon] theorem dSN (hh hs) : (dV.slice (Rect.unit (s := S2x512x2048) (k0_off13 i k) S1x512x2048.size hh) hs).squeeze S512x2048 squeezes_S1x512x2048_S512x2048 = dS (Ring.sl 2 (qq i k + 1)) := dS_congr (off13_eq i k) _ _
@[sl_canon] theorem gBN (hh hs) : gH.slice (Rect.unit (s := S2048x5632) (k0_off10 k) S2048x512.size hh) hs = gB (Ring.bk 11 (k.val + 1)) := gB_congr (off10_eq k) _ _
@[sl_canon] theorem uBN (hh hs) : uH.slice (Rect.unit (s := S2048x5632) (k0_off10 k) S2048x512.size hh) hs = uB (Ring.bk 11 (k.val + 1)) := uB_congr (off10_eq k) _ _
@[sl_canon] theorem dBN (hh hs) : dH.slice (Rect.unit (s := S5632x2048) (k0_off14 k) S512x2048.size hh) hs = dB (Ring.bk 11 (k.val + 1)) := dB_congr (off14_eq k) _ _
end Trip

end Cert.Kernel2Ideal.Hand

end
-- ==== Proof.FfnLoad.lean ====
/-
  What a trip of the feed-forward kernel reads from a slot in which a block of weights has landed: that block's elements.
-/
module

public import proofs.«01_k».proof.Proof.FfnNames
public import Idealize.ShloMosaic.Lib.Pipeline.Value
public import Idealize.ShloMosaic.Lib.WritesUnit
public import Idealize.ShloMosaic.Lib.ValueIdx
public import Idealize.ShloMosaic.Lib.VecWindow

@[expose] public section

noncomputable section

namespace Cert.Kernel2Ideal.Hand

open Cert.Kernel2Ideal Cert.Kernel2Ideal.Gen
open Idealize.ShloMosaic.ValueIdx
open Idealize.ShloMosaic Idealize.ShloMosaic.TcCoe Idealize.ShloMosaic.Tactic

variable {F : FTy → Type} [FloatOps F]

/-- Block `b`'s columns `off …` of a wide array, `256` of them. -/
def colHalf (G : S2048x5632.Idx → Elt F .bf16) (b : Fin 11) (h : Fin 2) : S1x2048x256.Idx → Elt F .bf16 := fun y =>
  G (ix2 ⟨(y 1).val, (y 1).isLt⟩ ⟨512 * b.val + 256 * h.val + (y 2).val, by have := b.isLt; have := h.isLt; have := (y 2).isLt; simp at this; omega⟩)
/-- Block `b`'s rows `off …` of the tall array, `256` of them. -/
def rowHalf (D : S5632x2048.Idx → Elt F .bf16) (b : Fin 11) (h : Fin 2) : S1x256x2048.Idx → Elt F .bf16 := fun y =>
  D (ix2 ⟨512 * b.val + 256 * h.val + (y 1).val, by have := b.isLt; have := h.isLt; have := (y 1).isLt; simp at this; omega⟩ ⟨(y 2).val, (y 2).isLt⟩)

omit [FloatOps F] in
/-- What is written whole is what is read. -/
theorem read_landed {κ : Kind} {sp : Space} {s : Shape} {e : EltTy} (v : View sig κ sp s e) (f) (w : s.Idx → Elt F e) (x : s.Idx) :
    v.read (Elt F) (v.writes (Elt F) f [⟨Rect.whole s, w⟩]) x = w x := by
  have h := View.read_writes_cons_emb v f (Rect.whole s) w [] x
  rwa [Rect.emb_whole_apply] at h

omit [FloatOps F] in
theorem gS_read (s : Fin 2) (f : (gS s).view.ty.Contents (Elt F)) (x : S2048x512.Idx) (z : S2x2048x512.Idx)
    (h0 : (z 0).val = s.val) (h1 : (z 1).val = (x 0).val) (h2 : (z 2).val = (x 1).val) :
    gV.view.read (Elt F) f z = (gS s).view.read (Elt F) f x := by
  have e : (Rect.unit (s := S2x2048x512) (slotOff s) S1x2048x512.size (slotOff_inb s)).emb (Shape.reshapeEquiv (squeezes_S1x2048x512_S2048x512).numel_eq x) = z := by
    have hx : Shape.reshapeEquiv (squeezes_S1x2048x512_S2048x512).numel_eq x = (Fin.cons ⟨0, Nat.one_pos⟩ x : S1x2048x512.Idx) :=
      shapeCast_dropUnit_apply ![2048, 512] id (squeezes_S1x2048x512_S2048x512).numel_eq.symm x
    refine (congrArg (Rect.unit (s := S2x2048x512) (slotOff s) S1x2048x512.size (slotOff_inb s)).emb hx).trans ?_
    funext a
    refine Fin.ext ?_
    fin_cases a
    · show s.val + 1 * 0 = (z 0).val; omega
    · show 0 + 1 * (x 0).val = (z 1).val; omega
    · show 0 + 1 * (x 1).val = (z 2).val; omega
  exact congrArg (gV.view.read (Elt F) f) e.symm

omit [FloatOps F] in
theorem uS_read (s : Fin 2) (f : (uS s).view.ty.Contents (Elt F)) (x : S2048x512.Idx) (z : S2x2048x512.Idx)
    (h0 : (z 0).val = s.val) (h1 : (z 1).val = (x 0).val) (h2 : (z 2).val = (x 1).val) :
    uV.view.read (Elt F) f z = (uS s).view.read (Elt F) f x := by
  have e : (Rect.unit (s := S2x2048x512) (slotOff s) S1x2048x512.size (slotOff_inb s)).emb (Shape.reshapeEquiv (squeezes_S1x2048x512_S2048x512).numel_eq x) = z := by
    have hx : Shape.reshapeEquiv (squeezes_S1x2048x512_S2048x512).numel_eq x = (Fin.cons ⟨0, Nat.one_pos⟩ x : S1x2048x512.Idx) :=
      shapeCast_dropUnit_apply ![2048, 512] id (squeezes_S1x2048x512_S2048x512).numel_eq.symm x
    refine (congrArg (Rect.unit (s := S2x2048x512) (slotOff s) S1x2048x512.size (slotOff_inb s)).emb hx).trans ?_
    funext a
    refine Fin.ext ?_
    fin_cases a
    · show s.val + 1 * 0 = (z 0).val; omega
    · show 0 + 1 * (x 0).val = (z 1).val; omega
    · show 0 + 1 * (x 1).val = (z 2).val; omega
  exact congrArg (uV.view.read (Elt F) f) e.symm

omit [FloatOps F] in
theorem dS_read (s : Fin 2) (f : (dS s).view.ty.Contents (Elt F)) (x : S512x2048.Idx) (z : S2x512x2048.Idx)
    (h0 : (z 0).val = s.val) (h1 : (z 1).val = (x 0).val) (h2 : (z 2).val = (x 1).val) :
    dV.view.read (Elt F) f z = (dS s).view.read (Elt F) f x := by
  have e : (Rect.unit (s := S2x512x2048) (slotOff s) S1x512x2048.size (slotOffD_inb s)).emb (Shape.reshapeEquiv (squeezes_S1x512x2048_S512x2048).numel_eq x) = z := by
    have hx : Shape.reshapeEquiv (squeezes_S1x512x2048_S512x2048).numel_eq x = (Fin.cons ⟨0, Nat.one_pos⟩ x : S1x512x2048.Idx) :=
      shapeCast_dropUnit_apply ![512, 2048] id (squeezes_S1x512x2048_S512x2048).numel_eq.symm x
    refine (congrArg (Rect.unit (s := S2x512x2048) (slotOff s) S1x512x2048.size (slotOffD_inb s)).emb hx).trans ?_
    funext a
    refine Fin.ext ?_
    fin_cases a
    · show s.val + 1 * 0 = (z 0).val; omega
    · show 0 + 1 * (x 0).val = (z 1).val; omega
    · show 0 + 1 * (x 1).val = (z 2).val; omega
  exact congrArg (dV.view.read (Elt F) f) e.symm

section Loads
variable (c : Dev nD) (XG : Buf (Elt F) (gH.view.loc (c : Thread nD τ))) (XU : Buf (Elt F) (uH.view.loc (c : Thread nD τ))) (XD : Buf (Elt F) (dH.view.loc (c : Thread nD τ)))

omit [FloatOps F] in
theorem gLoad (s : Fin 2) (b : Fin 11) (h : Fin 2) {off : Fin 3 → Nat} (e : off = ![s.val, 0, 256 * h.val]) (inb) (f0) :
    View.readAt (Elt F) gV.view (Rect.unit (s := S2x2048x512) off S1x2048x256.size inb).toLoadRect
      ((gS s).view.writes (Elt F) f0 [⟨Rect.whole S2048x512, ReadAs.same.apply (View.read (Elt F) (gB b).view XG)⟩]) = colHalf XG b h := by
  subst e
  funext y
  have y0 : (y 0).val < 1 := (y 0).isLt
  have y1 : (y 1).val < 2048 := (y 1).isLt
  have y2 : (y 2).val < 256 := (y 2).isLt
  have hh := h.isLt
  refine (gS_read s _ (ix2 ⟨(y 1).val, y1⟩ ⟨256 * h.val + (y 2).val, by omega⟩) _ ?_ ?_ ?_).trans ?_
  · show s.val + 1 * (y 0).val = s.val; omega
  · show 0 + 1 * (y 1).val = (y 1).val; omega
  · show 256 * h.val + 1 * (y 2).val = 256 * h.val + (y 2).val; omega
  refine (read_landed (gS s).view f0 _ _).trans ?_
  have e : (Rect.unit (s := S2048x5632) (colOff b) S2048x512.size (colOff_inb b)).emb (ix2 ⟨(y 1).val, y1⟩ ⟨256 * h.val + (y 2).val, by omega⟩)
      = (ix2 ⟨(y 1).val, (y 1).isLt⟩ ⟨512 * b.val + 256 * h.val + (y 2).val, by have := b.isLt; omega⟩ : S2048x5632.Idx) := by
    funext a
    refine Fin.ext ?_
    fin_cases a
    · show 0 + 1 * (y 1).val = (y 1).val; omega
    · show 512 * b.val + 1 * (256 * h.val + (y 2).val) = 512 * b.val + 256 * h.val + (y 2).val; omega
  exact congrArg (gH.view.read (Elt F) XG) e

omit [FloatOps F] in
theorem uLoad (s : Fin 2) (b : Fin 11) (h : Fin 2) {off : Fin 3 → Nat} (e : off = ![s.val, 0, 256 * h.val]) (inb) (f0) :
    View.readAt (Elt F) uV.view (Rect.unit (s := S2x2048x512) off S1x2048x256.size inb).toLoadRect
      ((uS s).view.writes (Elt F) f0 [⟨Rect.whole S2048x512, ReadAs.same.apply (View.read (Elt F) (uB b).view XU)⟩]) = colHalf XU b h := by
  subst e
  funext y
  have y0 : (y 0).val < 1 := (y 0).isLt
  have y1 : (y 1).val < 2048 := (y 1).isLt
  have y2 : (y 2).val < 256 := (y 2).isLt
  have hh := h.isLt
  refine (uS_read s _ (ix2 ⟨(y 1).val, y1⟩ ⟨256 * h.val + (y 2).val, by omega⟩) _ ?_ ?_ ?_).trans ?_
  · show s.val + 1 * (y 0).val = s.val; omega
  · show 0 + 1 * (y 1).val = (y 1).val; omega
  · show 256 * h.val + 1 * (y 2).val = 256 * h.val + (y 2).val; omega
  refine (read_landed (uS s).view f0 _ _).trans ?_
  have e : (Rect.unit (s := S2048x5632) (colOff b) S2048x512.size (colOff_inb b)).emb (ix2 ⟨(y 1).val, y1⟩ ⟨256 * h.val + (y 2).val, by omega⟩)
      = (ix2 ⟨(y 1).val, (y 1).isLt⟩ ⟨512 * b.val + 256 * h.val + (y 2).val, by have := b.isLt; omega⟩ : S2048x5632.Idx) := by
    funext a
    refine Fin.ext ?_
    fin_cases a
    · show 0 + 1 * (y 1).val = (y 1).val; omega
    · show 512 * b.val + 1 * (256 * h.val + (y 2).val) = 512 * b.val + 256 * h.val + (y 2).val; omega
  exact congrArg (uH.view.read (Elt F) XU) e

omit [FloatOps F] in
theorem dLoad (s : Fin 2) (b : Fin 11) (h : Fin 2) {off : Fin 3 → Nat} (e : off = ![s.val, 256 * h.val, 0]) (inb) (f0) :
    View.readAt (Elt F) dV.view (Rect.unit (s := S2x512x2048) off S1x256x2048.size inb).toLoadRect
      ((dS s).view.writes (Elt F) f0 [⟨Rect.whole S512x2048, ReadAs.same.apply (View.read (Elt F) (dB b).view XD)⟩]) = rowHalf XD b h := by
  subst e
  funext y
  have y0 : (y 0).val < 1 := (y 0).isLt
  have y1 : (y 1).val < 256 := (y 1).isLt
  have y2 : (y 2).val < 2048 := (y 2).isLt
  have hh := h.isLt
  refine (dS_read s _ (ix2 ⟨256 * h.val + (y 1).val, by omega⟩ ⟨(y 2).val, y2⟩) _ ?_ ?_ ?_).trans ?_
  · show s.val + 1 * (y 0).val = s.val; omega
  · show 256 * h.val + 1 * (y 1).val = 256 * h.val + (y 1).val; omega
  · show 0 + 1 * (y 2).val = (y 2).val; omega
  refine (read_landed (dS s).view f0 _ _).trans ?_
  have e : (Rect.unit (s := S5632x2048) (rowOff b) S512x2048.size (rowOff_inb b)).emb (ix2 ⟨256 * h.val + (y 1).val, by omega⟩ ⟨(y 2).val, y2⟩)
      = (ix2 ⟨512 * b.val + 256 * h.val + (y 1).val, by have := b.isLt; omega⟩ ⟨(y 2).val, (y 2).isLt⟩ : S5632x2048.Idx) := by
    funext a
    refine Fin.ext ?_
    fin_cases a
    · show 512 * b.val + 1 * (256 * h.val + (y 1).val) = 512 * b.val + 256 * h.val + (y 1).val; omega
    · show 0 + 1 * (y 2).val = (y 2).val; omega
  exact congrArg (dH.view.read (Elt F) XD) e

end Loads

/-- What a trip makes of the accumulated block: the two halves of block `b` added in. -/
def stepVal (G U : S2048x5632.Idx → Elt F .bf16) (D : S5632x2048.Idx → Elt F .bf16) (b : Fin 11) (x o : Vec F S1024x2048 .f32) : Vec F S1024x2048 .f32 :=
  k0_pay5 (k0_pay2 x (colHalf G b 1) (colHalf U b 1)) (k0_pay3 x (colHalf G b 0) (colHalf U b 0) o (rowHalf D b 0)) (rowHalf D b 1)

omit [FloatOps F] in
/-- A block stored whole is what is read back. -/
theorem read_whole {κ : Kind} {sp : Space} (v : View sig κ sp S1024x2048 .f32) (f) (w : Vec F S1024x2048 .f32) (L) (inb) :
    v.read (Elt F) (v.writes (Elt F) f ((⟨Rect.unit (s := S1024x2048) ![0, 0] S1024x2048.size inb, w⟩ : View.Piece (Elt F) S1024x2048 .f32) :: L)) = w := by
  funext y
  exact View.read_writes_cons_unit_of_mem v f inb w L y y rfl (fun a => by fin_cases a <;> exact (Nat.zero_add _).symm)

end Cert.Kernel2Ideal.Hand

end
-- ==== Proof.FfnRing.lean ====
/-
  The feed-forward kernel's ring: what a trip holds, and one trip of the loop.
-/
module

public import proofs.«01_k».proof.Proof.FfnLoad

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ × Counters
abbrev EP : Emb (UR sig nD τ) (MT nD τ sig Unit (Elt F) ℕ (UU nD τ) ℕ) := embL
abbrev SP (F : FTy → Type) : Type _ := sProp (MT nD τ sig Unit (Elt F) ℕ (UU nD τ) ℕ)
abbrev 𝒱₀ : Variants := Variants.none

section Pieces
variable (c : Dev nD) (XG : Buf (Elt F) (gH.view.loc (c : Thread nD τ))) (XU : Buf (Elt F) (uH.view.loc (c : Thread nD τ))) (XD : Buf (Elt F) (dH.view.loc (c : Thread nD τ)))

/-- A cell at rest. -/
abbrev cellP (r : Fin 3) (s : Fin 2) : SP F := semVal ((c : Thread nD τ), SemLoc.dma (cell r s).sem) 0
/-- A slot held, at given contents. -/
abbrev gP (s : Fin 2) (f : Buf (Elt F) ((gS s).view.loc (c : Thread nD τ))) : SP F := (gS s).view.loc (c : Thread nD τ) ↦[(gS s).view.set]{fullShare} f
abbrev uP (s : Fin 2) (f : Buf (Elt F) ((uS s).view.loc (c : Thread nD τ))) : SP F := (uS s).view.loc (c : Thread nD τ) ↦[(uS s).view.set]{fullShare} f
abbrev dP (s : Fin 2) (f : Buf (Elt F) ((dS s).view.loc (c : Thread nD τ))) : SP F := (dS s).view.loc (c : Thread nD τ) ↦[(dS s).view.set]{fullShare} f
/-- A block of an array, at the array's contents. -/
abbrev gHome (b : Fin 11) : SP F := (gB b).view.loc (c : Thread nD τ) ↦[(gB b).view.set]{fullShare} XG
abbrev uHome (b : Fin 11) : SP F := (uB b).view.loc (c : Thread nD τ) ↦[(uB b).view.set]{fullShare} XU
abbrev dHome (b : Fin 11) : SP F := (dB b).view.loc (c : Thread nD τ) ↦[(dB b).view.set]{fullShare} XD
/-- A slot in which a block has landed. -/
abbrev gLand (s : Fin 2) (b : Fin 11) (f : Buf (Elt F) ((gS s).view.loc (c : Thread nD τ))) : Buf (Elt F) ((gS s).view.loc (c : Thread nD τ)) :=
  (gS s).view.writes (Elt F) f [⟨Rect.whole S2048x512, ReadAs.same.apply ((gB b).view.read (Elt F) XG)⟩]
abbrev uLand (s : Fin 2) (b : Fin 11) (f : Buf (Elt F) ((uS s).view.loc (c : Thread nD τ))) : Buf (Elt F) ((uS s).view.loc (c : Thread nD τ)) :=
  (uS s).view.writes (Elt F) f [⟨Rect.whole S2048x512, ReadAs.same.apply ((uB b).view.read (Elt F) XU)⟩]
abbrev dLand (s : Fin 2) (b : Fin 11) (f : Buf (Elt F) ((dS s).view.loc (c : Thread nD τ))) : Buf (Elt F) ((dS s).view.loc (c : Thread nD τ)) :=
  (dS s).view.writes (Elt F) f [⟨Rect.whole S512x2048, ReadAs.same.apply ((dB b).view.read (Elt F) XD)⟩]
/-- A slot in flight. -/
abbrev gFly (s : Fin 2) (b : Fin 11) (f : Buf (Elt F) ((gS s).view.loc (c : Thread nD τ))) : SP F :=
  Transfers.Flight countersEmb (c : Thread nD τ) (SemLoc.dma (cell 0 s).sem) () 65536 iprop(gP c s (gLand c XG s b f) ∗ gHome c XG b)
abbrev uFly (s : Fin 2) (b : Fin 11) (f : Buf (Elt F) ((uS s).view.loc (c : Thread nD τ))) : SP F :=
  Transfers.Flight countersEmb (c : Thread nD τ) (SemLoc.dma (cell 1 s).sem) () 65536 iprop(uP c s (uLand c XU s b f) ∗ uHome c XU b)
abbrev dFly (s : Fin 2) (b : Fin 11) (f : Buf (Elt F) ((dS s).view.loc (c : Thread nD τ))) : SP F :=
  Transfers.Flight countersEmb (c : Thread nD τ) (SemLoc.dma (cell 2 s).sem) () 65536 iprop(dP c s (dLand c XD s b f) ∗ dHome c XD b)

/-- The three of a slot in flight, its three free, a block's three at home. -/
def fly (s : Fin 2) (b : Fin 11) : SP F := iprop((∃ f, gFly c XG s b f) ∗ (∃ f, uFly c XU s b f) ∗ (∃ f, dFly c XD s b f))
def free (s : Fin 2) : SP F := iprop((∃ f, gP c s f) ∗ (∃ f, uP c s f) ∗ (∃ f, dP c s f) ∗ cellP c 0 s ∗ cellP c 1 s ∗ cellP c 2 s)
def home (b : Fin 11) : SP F := iprop(gHome c XG b ∗ uHome c XU b ∗ dHome c XD b)

end Pieces

section Trip
variable (c : Dev nD) (XG : Buf (Elt F) (gH.view.loc (c : Thread nD τ))) (XU : Buf (Elt F) (uH.view.loc (c : Thread nD τ))) (XD : Buf (Elt F) (dH.view.loc (c : Thread nD τ)))
  (i : grid0.Coords)
  (arg1 : Memref sig .tc .vmem S1024x2048 .f32) (harg1 : arg1.IsWhole)
  (arg5 : Memref sig .tc .vmem S1x2048 .f32) (harg5 : arg5.IsWhole)
  (arg6 : Memref sig .tc .vmem S1x2048 .f32) (harg6 : arg6.IsWhole)
  (arg7 : Memref sig .tc .vmem S1024x2048 .f32) (harg7 : arg7.IsWhole)
  (arg0 : BitVec 32)

abbrev xP (fx : Buf (Elt F) (arg1.view.loc (c : Thread nD τ))) : SP F := arg1.view.loc (c : Thread nD τ) ↦[arg1.view.set]{fullShare} fx
abbrev oP (fo : Buf (Elt F) (arg7.view.loc (c : Thread nD τ))) : SP F := arg7.view.loc (c : Thread nD τ) ↦[arg7.view.set]{fullShare} fo

abbrev tripG (k : Fin k0_t1_loop.trips) : Prog (TpuEff nD τ sig (Elt F) Λ₀ .tc) Unit :=
  k0_t1_body (F := F) i arg1 harg1 gH (Memref.isWhole_whole _) uH (Memref.isWhole_whole _) dH (Memref.isWhole_whole _) arg5 harg5 arg6 harg6 arg7 harg7 gV (Memref.isWhole_whole _) uV (Memref.isWhole_whole _) dV (Memref.isWhole_whole _) cc0_scratch3 arg0 k ()

set_option backward.proofsInPublic true in
/-- A trip that fetches the next chunk. -/
def tripRun (k : Fin k0_t1_loop.trips) (hc : k0_cond2 i k = 1#1) (fx : Buf (Elt F) (arg1.view.loc (c : Thread nD τ))) (fo : Buf (Elt F) (arg7.view.loc (c : Thread nD τ))) :
    { w : Buf (Elt F) (arg7.view.loc (c : Thread nD τ)) //
      iprop(xP c arg1 fx ∗ oP c arg7 fo ∗ (∃ W, owes (c : Thread nD τ) 0 W) ∗ fly c XG XU XD (Ring.sl 2 (qq i k)) (Ring.bk 11 k.val)
          ∗ free c (Ring.sl 2 (qq i k + 1)) ∗ home c XG XU XD (Ring.bk 11 (k.val + 1)))
        ⊢ wp frame (wpE (defs₀ (F := F)) 𝒱₀ (c : Thread nD τ) none) Set.univ (tripG i arg1 harg1 arg5 harg5 arg6 harg6 arg7 harg7 arg0 k)
        (fun _ => iprop(xP c arg1 fx ∗ oP c arg7 w ∗ (∃ W, owes (c : Thread nD τ) 0 W) ∗ fly c XG XU XD (Ring.sl 2 (qq i k + 1)) (Ring.bk 11 (k.val + 1))
          ∗ free c (Ring.sl 2 (qq i k)) ∗ home c XG XU XD (Ring.bk 11 k.val))) } := by
  refine ⟨?_, ?run⟩
  case run =>
    unfold fly free home
    iintro ⟨HX, HO, ⟨%W, HW⟩, ⟨⟨%f0, HF0⟩, ⟨%f1, HF1⟩, ⟨%f2, HF2⟩⟩, ⟨⟨%g0, HS0⟩, ⟨%g1, HS1⟩, ⟨%g2, HS2⟩, HC0, HC1, HC2⟩, ⟨HH0, HH1, HH2⟩⟩
    dsimp only [tripG]
    sl_unfold [k0_t1_body]
    sl_exec
    sl_step
    isplitl [HX]; · iexact HX
    isplitl [HO]; · iexact HO
    isplitl [HW]; · iexists _; iexact HW
    isplitl [HC0 HC1 HC2]
    · isplitl [HC0]; · iexists g0; iexact HC0
      isplitl [HC1]; · iexists g1; iexact HC1
      iexists g2; iexact HC2
    isplitl [HF0_dst HF1_dst HF2_dst HF0 HF1 HF2]
    · isplitl [HF0_dst]; · iexists _; iexact HF0_dst
      isplitl [HF1_dst]; · iexists _; iexact HF1_dst
      isplitl [HF2_dst]; · iexists _; iexact HF2_dst
      isplitl [HF0]; · iexact HF0
      isplitl [HF1]; · iexact HF1
      iexact HF2
    isplitl [HF0_src]; · iexact HF0_src
    isplitl [HF1_src]; · iexact HF1_src
    iexact HF2_src

set_option backward.proofsInPublic true in
/-- The last trip: there is no next chunk. -/
def tripLast (k : Fin k0_t1_loop.trips) (hc : ¬ k0_cond2 i k = 1#1) (fx : Buf (Elt F) (arg1.view.loc (c : Thread nD τ))) (fo : Buf (Elt F) (arg7.view.loc (c : Thread nD τ))) :
    { w : Buf (Elt F) (arg7.view.loc (c : Thread nD τ)) //
      iprop(xP c arg1 fx ∗ oP c arg7 fo ∗ (∃ W, owes (c : Thread nD τ) 0 W) ∗ fly c XG XU XD (Ring.sl 2 (qq i k)) (Ring.bk 11 k.val))
        ⊢ wp frame (wpE (defs₀ (F := F)) 𝒱₀ (c : Thread nD τ) none) Set.univ (tripG i arg1 harg1 arg5 harg5 arg6 harg6 arg7 harg7 arg0 k)
        (fun _ => iprop(xP c arg1 fx ∗ oP c arg7 w ∗ (∃ W, owes (c : Thread nD τ) 0 W)
          ∗ free c (Ring.sl 2 (qq i k)) ∗ home c XG XU XD (Ring.bk 11 k.val))) } := by
  refine ⟨?_, ?run⟩
  case run =>
    unfold fly free home
    iintro ⟨HX, HO, ⟨%W, HW⟩, ⟨⟨%f0, HF0⟩, ⟨%f1, HF1⟩, ⟨%f2, HF2⟩⟩⟩
    dsimp only [tripG]
    sl_unfold [k0_t1_body]
    sl_exec
    sl_step
    isplitl [HX]; · iexact HX
    isplitl [HO]; · iexact HO
    isplitl [HW]; · iexists _; iexact HW
    isplitl [HF0_dst HF1_dst HF2_dst HF0 HF1 HF2]
    · isplitl [HF0_dst]; · iexists _; iexact HF0_dst
      isplitl [HF1_dst]; · iexists _; iexact HF1_dst
      isplitl [HF2_dst]; · iexists _; iexact HF2_dst
      isplitl [HF0]; · iexact HF0
      isplitl [HF1]; · iexact HF1
      iexact HF2
    isplitl [HF0_src]; · iexact HF0_src
    isplitl [HF1_src]; · iexact HF1_src
    iexact HF2_src

/-- What a trip stores, in the block of weights it used. -/
theorem trip_val {w69 w81 w73 w85 : S1x2048x256.Idx → Elt F .bf16} {w95 w103 : S1x256x2048.Idx → Elt F .bf16} (b : Fin 11)
    (h69 : w69 = colHalf XG b 0) (h81 : w81 = colHalf XG b 1) (h73 : w73 = colHalf XU b 0) (h85 : w85 = colHalf XU b 1)
    (h95 : w95 = rowHalf XD b 0) (h103 : w103 = rowHalf XD b 1)
    (fx : Buf (Elt F) (arg1.view.loc (c : Thread nD τ))) (fo : Buf (Elt F) (arg7.view.loc (c : Thread nD τ))) (inb) :
    arg7.view.read (Elt F) (arg7.view.writes (Elt F) fo
      ((⟨Rect.unit (s := S1024x2048) ![0, 0] S1024x2048.size inb, k0_pay5 (k0_pay2 (View.readAt (Elt F) arg1.view (Rect.unit (s := S1024x2048) ![0, 0] S1024x2048.size inb).toLoadRect fx) w81 w85)
          (arg7.view.readCov [(⟨Rect.unit (s := S1024x2048) ![0, 0] S1024x2048.size inb,
              k0_pay3 (View.readAt (Elt F) arg1.view (Rect.unit (s := S1024x2048) ![0, 0] S1024x2048.size inb).toLoadRect fx) w69 w73
                (View.readAt (Elt F) arg7.view (Rect.unit (s := S1024x2048) ![0, 0] S1024x2048.size inb).toLoadRect fo) w95⟩ : View.Piece (Elt F) S1024x2048 .f32)]
            (Rect.unit (s := S1024x2048) ![0, 0] S1024x2048.size inb).toLoadRect) w103⟩ : View.Piece (Elt F) S1024x2048 .f32) ::
        [(⟨Rect.unit (s := S1024x2048) ![0, 0] S1024x2048.size inb,
              k0_pay3 (View.readAt (Elt F) arg1.view (Rect.unit (s := S1024x2048) ![0, 0] S1024x2048.size inb).toLoadRect fx) w69 w73
                (View.readAt (Elt F) arg7.view (Rect.unit (s := S1024x2048) ![0, 0] S1024x2048.size inb).toLoadRect fo) w95⟩ : View.Piece (Elt F) S1024x2048 .f32)]))
      = stepVal XG XU XD b (arg1.view.read (Elt F) fx) (arg7.view.read (Elt F) fo) := by
  subst h69 h81 h73 h85 h95 h103
  refine (read_whole _ _ _ _ _).trans ?_
  unfold View.readCov
  rw [View.readAt_full, View.readAt_full, View.readAt_full, read_whole]
  rfl

theorem tripRun_val (k : Fin k0_t1_loop.trips) (hc : k0_cond2 i k = 1#1) (fx : Buf (Elt F) (arg1.view.loc (c : Thread nD τ))) (fo : Buf (Elt F) (arg7.view.loc (c : Thread nD τ))) :
    arg7.view.read (Elt F) (tripRun c XG XU XD i arg1 harg1 arg5 harg5 arg6 harg6 arg7 harg7 arg0 k hc fx fo).1
      = stepVal XG XU XD (Ring.bk 11 k.val) (arg1.view.read (Elt F) fx) (arg7.view.read (Elt F) fo) := by
  have h69 : tripRun.sl.v69 c XG i k = colHalf XG (Ring.bk 11 k.val) 0 := by unfold tripRun.sl.v69; exact gLoad c XG _ _ 0 (off15_eq i k) _ _
  have h81 : tripRun.sl.v81 c XG i k = colHalf XG (Ring.bk 11 k.val) 1 := by unfold tripRun.sl.v81; exact gLoad c XG _ _ 1 (off16_eq i k) _ _
  have h73 : tripRun.sl.v73 c XU i k = colHalf XU (Ring.bk 11 k.val) 0 := by unfold tripRun.sl.v73; exact uLoad c XU _ _ 0 (off15_eq i k) _ _
  have h85 : tripRun.sl.v85 c XU i k = colHalf XU (Ring.bk 11 k.val) 1 := by unfold tripRun.sl.v85; exact uLoad c XU _ _ 1 (off16_eq i k) _ _
  have h95 : tripRun.sl.v95 c XD i k = rowHalf XD (Ring.bk 11 k.val) 0 := by unfold tripRun.sl.v95; exact dLoad c XD _ _ 0 (off17_eq i k) _ _
  have h103 : tripRun.sl.v103 c XD i k = rowHalf XD (Ring.bk 11 k.val) 1 := by unfold tripRun.sl.v103; exact dLoad c XD _ _ 1 (off18_eq i k) _ _
  unfold tripRun
  dsimp only
  unfold tripRun.sl.r tripRun.sl.v100 tripRun.sl.HO_1
  exact trip_val c XG XU XD arg1 arg7 (Ring.bk 11 k.val) h69 h81 h73 h85 h95 h103 fx fo _

theorem tripLast_val (k : Fin k0_t1_loop.trips) (hc : ¬ k0_cond2 i k = 1#1) (fx : Buf (Elt F) (arg1.view.loc (c : Thread nD τ))) (fo : Buf (Elt F) (arg7.view.loc (c : Thread nD τ))) :
    arg7.view.read (Elt F) (tripLast c XG XU XD i arg1 harg1 arg5 harg5 arg6 harg6 arg7 harg7 arg0 k hc fx fo).1
      = stepVal XG XU XD (Ring.bk 11 k.val) (arg1.view.read (Elt F) fx) (arg7.view.read (Elt F) fo) := by
  have h69 : tripLast.sl.v69 c XG i k = colHalf XG (Ring.bk 11 k.val) 0 := by unfold tripLast.sl.v69; exact gLoad c XG _ _ 0 (off15_eq i k) _ _
  have h81 : tripLast.sl.v81 c XG i k = colHalf XG (Ring.bk 11 k.val) 1 := by unfold tripLast.sl.v81; exact gLoad c XG _ _ 1 (off16_eq i k) _ _
  have h73 : tripLast.sl.v73 c XU i k = colHalf XU (Ring.bk 11 k.val) 0 := by unfold tripLast.sl.v73; exact uLoad c XU _ _ 0 (off15_eq i k) _ _
  have h85 : tripLast.sl.v85 c XU i k = colHalf XU (Ring.bk 11 k.val) 1 := by unfold tripLast.sl.v85; exact uLoad c XU _ _ 1 (off16_eq i k) _ _
  have h95 : tripLast.sl.v95 c XD i k = rowHalf XD (Ring.bk 11 k.val) 0 := by unfold tripLast.sl.v95; exact dLoad c XD _ _ 0 (off17_eq i k) _ _
  have h103 : tripLast.sl.v103 c XD i k = rowHalf XD (Ring.bk 11 k.val) 1 := by unfold tripLast.sl.v103; exact dLoad c XD _ _ 1 (off18_eq i k) _ _
  unfold tripLast
  dsimp only
  unfold tripLast.sl.r tripLast.sl.v100 tripLast.sl.HO_1
  exact trip_val c XG XU XD arg1 arg7 (Ring.bk 11 k.val) h69 h81 h73 h85 h95 h103 fx fo _

end Trip

end Cert.Kernel2Ideal.Hand

end
-- ==== Proof.FfnBody.lean ====
/-
  The feed-forward kernel's body at a grid point: the ring of weights before and after a trip, the loop, the whole body.
-/
module

public import proofs.«01_k».proof.Proof.FfnRing

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem entails_of_eq {P Q : SP F} (e : P = Q) : P ⊢ Q := e ▸ .rfl

section Ring
variable (c : Dev nD) (XG : Buf (Elt F) (gH.view.loc (c : Thread nD τ))) (XU : Buf (Elt F) (uH.view.loc (c : Thread nD τ))) (XD : Buf (Elt F) (dH.view.loc (c : Thread nD τ)))

/-- The ring when `n` chunks are used up: the next one in flight, the other slot free, the other blocks at home; past the last
    chunk all is at rest. -/
def ring (n : ℕ) : SP F :=
  if n < 352 then iprop(fly c XG XU XD (Ring.sl 2 n) (Ring.bk 11 n) ∗ free c (Ring.sl 2 (n + 1)) ∗ bigSep (Finset.univ.erase (Ring.bk 11 n)) (home c XG XU XD))
  else iprop(free c (Ring.sl 2 0) ∗ free c (Ring.sl 2 1) ∗ bigSep Finset.univ (home c XG XU XD))

theorem bk_ne (n : ℕ) : Ring.bk 11 (n + 1) ≠ Ring.bk 11 n := by
  intro h
  have := congrArg Fin.val h
  simp only [Ring.bk, Fin.ofNat] at this
  omega
theorem bk_chunk (a k : ℕ) : Ring.bk 11 (11 * a + k) = Ring.bk 11 k := Fin.ext (by simp [Ring.bk, Fin.ofNat])
theorem sl_two (n : ℕ) : Ring.sl 2 (n + 1 + 1) = Ring.sl 2 n := Fin.ext (by simp only [Ring.sl, Fin.ofNat]; omega)

/-- The blocks at home before a trip: the one about to be lent, and the rest. -/
theorem homes_here (n : ℕ) :
    bigSep (Finset.univ.erase (Ring.bk 11 n)) (home c XG XU XD)
      = iprop(home c XG XU XD (Ring.bk 11 (n + 1)) ∗ bigSep ((Finset.univ.erase (Ring.bk 11 n)).erase (Ring.bk 11 (n + 1))) (home c XG XU XD)) :=
  BI.bigSep_erase (Finset.mem_erase.2 ⟨bk_ne n, Finset.mem_univ _⟩)
/-- After it: the one just back, and that rest. -/
theorem homes_next (n : ℕ) :
    bigSep (Finset.univ.erase (Ring.bk 11 (n + 1))) (home c XG XU XD)
      = iprop(home c XG XU XD (Ring.bk 11 n) ∗ bigSep ((Finset.univ.erase (Ring.bk 11 n)).erase (Ring.bk 11 (n + 1))) (home c XG XU XD)) := by
  rw [Finset.erase_right_comm]
  exact BI.bigSep_erase (Finset.mem_erase.2 ⟨(bk_ne n).symm, Finset.mem_univ _⟩)
theorem homes_all (b : Fin 11) :
    bigSep Finset.univ (home c XG XU XD) = iprop(home c XG XU XD b ∗ bigSep (Finset.univ.erase b) (home c XG XU XD)) :=
  BI.bigSep_erase (Finset.mem_univ _)

theorem ring_lt {n : ℕ} (h : n + 1 < 352) :
    ring c XG XU XD n = iprop(fly c XG XU XD (Ring.sl 2 n) (Ring.bk 11 n) ∗ free c (Ring.sl 2 (n + 1))
      ∗ home c XG XU XD (Ring.bk 11 (n + 1)) ∗ bigSep ((Finset.univ.erase (Ring.bk 11 n)).erase (Ring.bk 11 (n + 1))) (home c XG XU XD)) := by
  unfold ring; rw [if_pos (by omega), homes_here]
theorem ring_next {n : ℕ} (h : n + 1 < 352) :
    ring c XG XU XD (n + 1) = iprop(fly c XG XU XD (Ring.sl 2 (n + 1)) (Ring.bk 11 (n + 1)) ∗ free c (Ring.sl 2 n)
      ∗ home c XG XU XD (Ring.bk 11 n) ∗ bigSep ((Finset.univ.erase (Ring.bk 11 n)).erase (Ring.bk 11 (n + 1))) (home c XG XU XD)) := by
  unfold ring; rw [if_pos h, homes_next, sl_two]
theorem ring_last : ring c XG XU XD 351 = iprop(fly c XG XU XD (Ring.sl 2 351) (Ring.bk 11 351) ∗ free c (Ring.sl 2 0) ∗ bigSep (Finset.univ.erase (Ring.bk 11 351)) (home c XG XU XD)) := by
  unfold ring; rw [if_pos (by omega)]; rfl
theorem ring_end : ring c XG XU XD 352 = iprop(free c (Ring.sl 2 0) ∗ free c (Ring.sl 2 351) ∗ home c XG XU XD (Ring.bk 11 351) ∗ bigSep (Finset.univ.erase (Ring.bk 11 351)) (home c XG XU XD)) := by
  unfold ring; rw [if_neg (by omega), homes_all c XG XU XD (Ring.bk 11 351)]; rfl
theorem ring_zero : ring c XG XU XD 0 = iprop(fly c XG XU XD 0 0 ∗ free c 1 ∗ bigSep (Finset.univ.erase 0) (home c XG XU XD)) := by
  unfold ring; rw [if_pos (by omega)]; rfl
theorem ring_idle : ring c XG XU XD 352 = iprop(free c 0 ∗ free c 1 ∗ home c XG XU XD 0 ∗ bigSep (Finset.univ.erase 0) (home c XG XU XD)) := by
  unfold ring; rw [if_neg (by omega), homes_all c XG XU XD 0]; rfl

end Ring

/-- The block accumulated over the first `k` chunks, from `o`. -/
def acc (G U : S2048x5632.Idx → Elt F .bf16) (D : S5632x2048.Idx → Elt F .bf16) (x o : Vec F S1024x2048 .f32) : ℕ → Vec F S1024x2048 .f32
  | 0 => o
  | k + 1 => stepVal G U D (Ring.bk 11 k) x (acc G U D x o k)

section Trip
variable (c : Dev nD) (XG : Buf (Elt F) (gH.view.loc (c : Thread nD τ))) (XU : Buf (Elt F) (uH.view.loc (c : Thread nD τ))) (XD : Buf (Elt F) (dH.view.loc (c : Thread nD τ)))
  (i : grid0.Coords)
  (arg1 : Memref sig .tc .vmem S1024x2048 .f32) (harg1 : arg1.IsWhole)
  (arg5 : Memref sig .tc .vmem S1x2048 .f32) (harg5 : arg5.IsWhole)
  (arg6 : Memref sig .tc .vmem S1x2048 .f32) (harg6 : arg6.IsWhole)
  (arg7 : Memref sig .tc .vmem S1024x2048 .f32) (harg7 : arg7.IsWhole)
  (arg0 : BitVec 32)

/-- Before trip `k`: the block `x`, the accumulated block, the ring. -/
def invAt (fx : Buf (Elt F) (arg1.view.loc (c : Thread nD τ))) (o0 : Vec F S1024x2048 .f32) (k : ℕ) : SP F :=
  iprop(xP c arg1 fx ∗ oP c arg7 (arg7.view.rep (acc XG XU XD (arg1.view.read (Elt F) fx) o0 k)) ∗ (∃ W, owes (c : Thread nD τ) 0 W) ∗ ring c XG XU XD (11 * (i 0).val + k))

/-- A block held, at what is read of it. -/
theorem oP_rep {w : Buf (Elt F) (arg7.view.loc (c : Thread nD τ))} {v : Vec F S1024x2048 .f32} (e : arg7.view.read (Elt F) w = v) :
    oP c arg7 w ⊢ oP c arg7 (arg7.view.rep v) := by
  subst e
  exact pointsTo_rep_entails (c : Thread nD τ) arg7 w fullShare

theorem trip_step (fx : Buf (Elt F) (arg1.view.loc (c : Thread nD τ))) (o0 : Vec F S1024x2048 .f32) (k : Fin k0_t1_loop.trips) :
    invAt c XG XU XD i arg1 arg7 fx o0 k.val
      ⊢ wp frame (wpE (defs₀ (F := F)) 𝒱₀ (c : Thread nD τ) none) Set.univ (tripG i arg1 harg1 arg5 harg5 arg6 harg6 arg7 harg7 arg0 k)
        (fun _ => invAt c XG XU XD i arg1 arg7 fx o0 (k.val + 1)) := by
  unfold invAt
  by_cases hc : k0_cond2 i k = 1#1
  · have hn : 11 * (i 0).val + k.val + 1 < 352 := (cond2_iff i k).1 hc
    rw [ring_lt c XG XU XD hn, ← Nat.add_assoc, ring_next c XG XU XD hn, Nat.add_assoc (11 * (i 0).val), bk_chunk, bk_chunk, ← Nat.add_assoc]
    iintro ⟨HX, HO, HW, HF, HS, HH, HR⟩
    iapply (wp_wand_r Idealize.ShloMosaic.frame (wpE (defs₀ (F := F)) 𝒱₀ (c : Thread nD τ) none) Set.univ)
    isplitl [HX HO HW HF HS HH]
    · iapply (tripRun c XG XU XD i arg1 harg1 arg5 harg5 arg6 harg6 arg7 harg7 arg0 k hc fx _).2
      isplitl [HX]; · iexact HX
      isplitl [HO]; · iexact HO
      isplitl [HW]; · iexact HW
      isplitl [HF]; · iexact HF
      isplitl [HS]; · iexact HS
      iexact HH
    · iintro %_ ⟨HX, HO, HW, HF, HS, HH⟩
      ihave HO2 := (oP_rep c arg7 ((tripRun_val c XG XU XD i arg1 harg1 arg5 harg5 arg6 harg6 arg7 harg7 arg0 k hc fx _).trans (congrArg (stepVal XG XU XD (Ring.bk 11 k.val) _) (View.read_rep _ _)))) $$ HO
      isplitl [HX]; · iexact HX
      isplitl [HO2]; · iexact HO2
      isplitl [HW]; · iexact HW
      isplitl [HF]; · iexact HF
      isplitl [HS]; · iexact HS
      isplitl [HH]; · iexact HH
      iexact HR
  · have hn : ¬ 11 * (i 0).val + k.val + 1 < 352 := fun h => hc ((cond2_iff i k).2 h)
    have hi : (i 0).val < 32 := (i 0).isLt
    have hk : k.val < 11 := Nat.lt_of_lt_of_eq k.isLt trips_eq
    have e : 11 * (i 0).val + k.val = 351 := by omega
    have eb : Ring.bk 11 351 = Ring.bk 11 k.val := by rw [← e, bk_chunk]
    rw [← Nat.add_assoc, e, ring_last, ring_end, eb]
    iintro ⟨HX, HO, HW, HF, HS, HR⟩
    iapply (wp_wand_r Idealize.ShloMosaic.frame (wpE (defs₀ (F := F)) 𝒱₀ (c : Thread nD τ) none) Set.univ)
    isplitl [HX HO HW HF]
    · iapply (tripLast c XG XU XD i arg1 harg1 arg5 harg5 arg6 harg6 arg7 harg7 arg0 k hc fx _).2
      isplitl [HX]; · iexact HX
      isplitl [HO]; · iexact HO
      isplitl [HW]; · iexact HW
      irw [show qq i k = 351 from e]
      iexact HF
    · iintro %_ ⟨HX, HO, HW, HS', HH⟩
      ihave HS2 := (entails_of_eq (congrArg (fun n => free c (Ring.sl 2 n)) (show qq i k = 351 from e))) $$ HS'
      ihave HO2 := (oP_rep c arg7 ((tripLast_val c XG XU XD i arg1 harg1 arg5 harg5 arg6 harg6 arg7 harg7 arg0 k hc fx _).trans (congrArg (stepVal XG XU XD (Ring.bk 11 k.val) _) (View.read_rep _ _)))) $$ HO
      isplitl [HX]; · iexact HX
      isplitl [HO2]; · iexact HO2
      isplitl [HW]; · iexact HW
      isplitl [HS]; · iexact HS
      isplitl [HS2]; · iexact HS2
      isplitl [HH]; · iexact HH
      iexact HR

set_option warn.classDefReducibility false in
/-- The loop keeps that. -/
def loopInv1 (fx : Buf (Elt F) (arg1.view.loc (c : Thread nD τ))) (o0 : Vec F S1024x2048 .f32) :
    LoopInvTy_k0_t1 (F := F) Unit ℕ (UU nD τ) ℕ 𝒱₀ c none Set.univ i arg1 harg1 gH (Memref.isWhole_whole _) uH (Memref.isWhole_whole _) dH (Memref.isWhole_whole _) arg5 harg5 arg6 harg6 arg7 harg7 gV (Memref.isWhole_whole _) uV (Memref.isWhole_whole _) dV (Memref.isWhole_whole _) cc0_scratch3 arg0 where
  inv k _ := invAt c XG XU XD i arg1 arg7 fx o0 k
  step k _ := trip_step c XG XU XD i arg1 harg1 arg5 harg5 arg6 harg6 arg7 harg7 arg0 fx o0 k

end Trip

end Cert.Kernel2Ideal.Hand

end
-- ==== Proof.FfnRun.lean ====
/-
  The feed-forward kernel's whole body at a grid point.
-/
module

public import proofs.«01_k».proof.Proof.FfnBody

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Body
variable (c : Dev nD) (XG : Buf (Elt F) (gH.view.loc (c : Thread nD τ))) (XU : Buf (Elt F) (uH.view.loc (c : Thread nD τ))) (XD : Buf (Elt F) (dH.view.loc (c : Thread nD τ)))
  (i : grid0.Coords)
  (arg1 : Memref sig .tc .vmem S1024x2048 .f32) (harg1 : arg1.IsWhole)
  (arg5 : Memref sig .tc .vmem S1x2048 .f32) (harg5 : arg5.IsWhole)
  (arg6 : Memref sig .tc .vmem S1x2048 .f32) (harg6 : arg6.IsWhole)
  (arg7 : Memref sig .tc .vmem S1024x2048 .f32) (harg7 : arg7.IsWhole)

abbrev bodyG : Prog (TpuEff nD τ sig (Elt F) Λ₀ .tc) PUnit :=
  cc0_swiglu_ffn_ln i arg1 harg1 gH (Memref.isWhole_whole _) uH (Memref.isWhole_whole _) dH (Memref.isWhole_whole _) arg5 harg5 arg6 harg6 arg7 harg7 gV (Memref.isWhole_whole _) uV (Memref.isWhole_whole _) dV (Memref.isWhole_whole _) cc0_scratch3

abbrev rowP (a : Memref sig .tc .vmem S1x2048 .f32) (f : Buf (Elt F) (a.view.loc (c : Thread nD τ))) : SP F := a.view.loc (c : Thread nD τ) ↦[a.view.set]{fullShare} f

/-- The block the body leaves. -/
def outVal (G U : S2048x5632.Idx → Elt F .bf16) (D : S5632x2048.Idx → Elt F .bf16) (x : Vec F S1024x2048 .f32) (g b : Vec F S1x2048 .f32) : Vec F S1024x2048 .f32 :=
  k0_pay6 (acc G U D x (k0_pay4 x) 11) g b

theorem inv_zero (fx : Buf (Elt F) (arg1.view.loc (c : Thread nD τ))) (o0 : Vec F S1024x2048 .f32) {n : ℕ} (hn : n = 11 * (i 0).val) (W : Waits sig Unit) :
    iprop(xP c arg1 fx ∗ oP c arg7 (arg7.view.rep o0) ∗ owes (c : Thread nD τ) 0 W ∗ ring c XG XU XD n) ⊢ invAt c XG XU XD i arg1 arg7 fx o0 0 := by
  subst hn
  unfold invAt
  iintro ⟨HX, HO, HW, HR⟩
  isplitl [HX]; · iexact HX
  isplitl [HO]; · iexact HO
  isplitl [HW]; · iexists W; iexact HW
  iexact HR

theorem inv_trips (fx : Buf (Elt F) (arg1.view.loc (c : Thread nD τ))) (o0 : Vec F S1024x2048 .f32) (k : ℕ) (hk : k = 11) :
    invAt c XG XU XD i arg1 arg7 fx o0 k ⊢ iprop(xP c arg1 fx ∗ oP c arg7 (arg7.view.rep (acc XG XU XD (arg1.view.read (Elt F) fx) o0 11)) ∗ (∃ W, owes (c : Thread nD τ) 0 W) ∗ ring c XG XU XD (11 * (i 0).val + 11)) := by
  subst hk
  exact .rfl

theorem loop_run (fx : Buf (Elt F) (arg1.view.loc (c : Thread nD τ))) (o0 : Vec F S1024x2048 .f32) (arg0 : BitVec 32) {β : Type}
    (kk : Unit → Prog (TpuEff nD τ sig (Elt F) Λ₀ .tc) β) (Q : β → SP F) :
    invAt c XG XU XD i arg1 arg7 fx o0 0 ⊢ iprop((∀ u, invAt c XG XU XD i arg1 arg7 fx o0 k0_t1_loop.trips -∗ wp frame (wpE (defs₀ (F := F)) 𝒱₀ (c : Thread nD τ) none) Set.univ (kk u) Q)
      -∗ wp frame (wpE (defs₀ (F := F)) 𝒱₀ (c : Thread nD τ) none) Set.univ (Scf.Loop.for k0_t1_loop k0_t1_ok () (k0_t1_body i arg1 harg1 gH (Memref.isWhole_whole _) uH (Memref.isWhole_whole _) dH (Memref.isWhole_whole _) arg5 harg5 arg6 harg6 arg7 harg7 gV (Memref.isWhole_whole _) uV (Memref.isWhole_whole _) dV (Memref.isWhole_whole _) cc0_scratch3 arg0) >>= kk) Q) :=
  exec_loop _ _ _ _ _ _ _ _ _ (loopInv1 c XG XU XD i arg1 harg1 arg5 harg5 arg6 harg6 arg7 harg7 arg0 fx o0)

theorem bodyRun1 (h1 : k0_cond1 i = 1#1) (fx : Buf (Elt F) (arg1.view.loc (c : Thread nD τ))) (f5 : Buf (Elt F) (arg5.view.loc (c : Thread nD τ)))
    (f6 : Buf (Elt F) (arg6.view.loc (c : Thread nD τ))) (f7 : Buf (Elt F) (arg7.view.loc (c : Thread nD τ))) (W : Waits sig Unit) (Q : PUnit → SP F) :
    iprop((xP c arg1 fx ∗ rowP c arg5 f5 ∗ rowP c arg6 f6 ∗ oP c arg7 f7 ∗ owes (c : Thread nD τ) 0 W ∗ ring c XG XU XD 352)
        ∗ ((xP c arg1 fx ∗ rowP c arg5 f5 ∗ rowP c arg6 f6 ∗ oP c arg7 (arg7.view.rep (outVal XG XU XD (arg1.view.read (Elt F) fx) (arg5.view.read (Elt F) f5) (arg6.view.read (Elt F) f6)))
          ∗ (∃ W, owes (c : Thread nD τ) 0 W) ∗ ring c XG XU XD (11 * (i 0).val + 11)) -∗ Q ⟨⟩))
      ⊢ wp frame (wpE (defs₀ (F := F)) 𝒱₀ (c : Thread nD τ) none) Set.univ (bodyG i arg1 harg1 arg5 harg5 arg6 harg6 arg7 harg7) Q := by
  rw [ring_idle]
  unfold free home
  iintro ⟨⟨HX, H5, H6, HO, HW, ⟨⟨%g0, HS0⟩, ⟨%g1, HS1⟩, ⟨%g2, HS2⟩, HC0, HC1, HC2⟩, HF, ⟨HH0, HH1, HH2⟩, HR⟩, HK⟩
  dsimp only [bodyG]
  sl_exec
  ihave HRg := (entails_of_eq (ring_zero c XG XU XD).symm) $$ [HC0 HC1 HC2 HF HR]
  · unfold fly free home
    isplitl [HC0 HC1 HC2]
    · isplitl [HC0]; · iexists g0; iexact HC0
      isplitl [HC1]; · iexists g1; iexact HC1
      iexists g2; iexact HC2
    isplitl [HF]; · iexact HF
    iexact HR
  ihave HO2 := (oP_rep c arg7 (v := k0_pay4 (arg1.view.read (Elt F) fx)) (by unfold bodyRun1.sl.HO_1; rw [read_whole, View.readAt_full])) $$ HO
  ihave HI := (inv_zero c XG XU XD i arg1 arg7 fx _ (by rw [(cond1_iff i).1 h1]) W) $$ [HX HO2 HW HRg]
  · isplitl [HX]; · iexact HX
    isplitl [HO2]; · iexact HO2
    isplitl [HW]; · iexact HW
    iexact HRg
  iapply (loop_run c XG XU XD i arg1 harg1 arg5 harg5 arg6 harg6 arg7 harg7 fx (k0_pay4 (arg1.view.read (Elt F) fx)) (BitVec.ofNat 32 (i 0).val)) $$ HI
  iintro %_ HI
  ihave HI2 := (inv_trips c XG XU XD i arg1 arg7 fx _ _ trips_eq) $$ HI
  icases HI2 with ⟨HX, HO, ⟨%W', HW⟩, HR⟩
  sl_exec
  sl_step
  iapply HK
  isplitl [HX]; · iexact HX
  isplitl [H5]; · iexact H5
  isplitl [H6]; · iexact H6
  isplitl [HO]
  · iapply (oP_rep c arg7 ?_) $$ HO
    refine (read_whole _ _ _ _ _).trans ?_
    unfold bodyRun1.sl.r outVal
    rw [View.readAt_full, View.readAt_full, View.readAt_full, View.read_rep]
  isplitl [HW]; · iexists _; iexact HW
  iexact HR

theorem bodyRun2 (h1 : ¬ k0_cond1 i = 1#1) (fx : Buf (Elt F) (arg1.view.loc (c : Thread nD τ))) (f5 : Buf (Elt F) (arg5.view.loc (c : Thread nD τ)))
    (f6 : Buf (Elt F) (arg6.view.loc (c : Thread nD τ))) (f7 : Buf (Elt F) (arg7.view.loc (c : Thread nD τ))) (W : Waits sig Unit) (Q : PUnit → SP F) :
    iprop((xP c arg1 fx ∗ rowP c arg5 f5 ∗ rowP c arg6 f6 ∗ oP c arg7 f7 ∗ owes (c : Thread nD τ) 0 W ∗ ring c XG XU XD (11 * (i 0).val))
        ∗ ((xP c arg1 fx ∗ rowP c arg5 f5 ∗ rowP c arg6 f6 ∗ oP c arg7 (arg7.view.rep (outVal XG XU XD (arg1.view.read (Elt F) fx) (arg5.view.read (Elt F) f5) (arg6.view.read (Elt F) f6)))
          ∗ (∃ W, owes (c : Thread nD τ) 0 W) ∗ ring c XG XU XD (11 * (i 0).val + 11)) -∗ Q ⟨⟩))
      ⊢ wp frame (wpE (defs₀ (F := F)) 𝒱₀ (c : Thread nD τ) none) Set.univ (bodyG i arg1 harg1 arg5 harg5 arg6 harg6 arg7 harg7) Q := by
  iintro ⟨⟨HX, H5, H6, HO, HW, HR⟩, HK⟩
  dsimp only [bodyG]
  sl_exec
  ihave HO2 := (oP_rep c arg7 (v := k0_pay4 (arg1.view.read (Elt F) fx)) (by unfold bodyRun2.sl.HO_1; rw [read_whole, View.readAt_full])) $$ HO
  ihave HI := (inv_zero c XG XU XD i arg1 arg7 fx _ rfl W) $$ [HX HO2 HW HR]
  · isplitl [HX]; · iexact HX
    isplitl [HO2]; · iexact HO2
    isplitl [HW]; · iexact HW
    iexact HR
  iapply (loop_run c XG XU XD i arg1 harg1 arg5 harg5 arg6 harg6 arg7 harg7 fx (k0_pay4 (arg1.view.read (Elt F) fx)) (BitVec.ofNat 32 (i 0).val)) $$ HI
  iintro %_ HI
  ihave HI2 := (inv_trips c XG XU XD i arg1 arg7 fx _ _ trips_eq) $$ HI
  icases HI2 with ⟨HX, HO, ⟨%W', HW⟩, HR⟩
  sl_exec
  sl_step
  iapply HK
  isplitl [HX]; · iexact HX
  isplitl [H5]; · iexact H5
  isplitl [H6]; · iexact H6
  isplitl [HO]
  · iapply (oP_rep c arg7 ?_) $$ HO
    refine (read_whole _ _ _ _ _).trans ?_
    unfold bodyRun2.sl.r outVal
    rw [View.readAt_full, View.readAt_full, View.readAt_full, View.read_rep]
  isplitl [HW]; · iexists _; iexact HW
  iexact HR

/-- The ring before point `t`: at rest before the first, and after the last. -/
def ringAt (t : ℕ) : SP F := ring c XG XU XD (if t = 0 then 352 else 11 * t)

theorem bodyRun (fx : Buf (Elt F) (arg1.view.loc (c : Thread nD τ))) (f5 : Buf (Elt F) (arg5.view.loc (c : Thread nD τ)))
    (f6 : Buf (Elt F) (arg6.view.loc (c : Thread nD τ))) (f7 : Buf (Elt F) (arg7.view.loc (c : Thread nD τ))) (W : Waits sig Unit) (Q : PUnit → SP F) :
    iprop((xP c arg1 fx ∗ rowP c arg5 f5 ∗ rowP c arg6 f6 ∗ oP c arg7 f7 ∗ owes (c : Thread nD τ) 0 W ∗ ringAt c XG XU XD (i 0).val)
        ∗ ((xP c arg1 fx ∗ rowP c arg5 f5 ∗ rowP c arg6 f6 ∗ oP c arg7 (arg7.view.rep (outVal XG XU XD (arg1.view.read (Elt F) fx) (arg5.view.read (Elt F) f5) (arg6.view.read (Elt F) f6)))
          ∗ (∃ W, owes (c : Thread nD τ) 0 W) ∗ ringAt c XG XU XD ((i 0).val + 1)) -∗ Q ⟨⟩))
      ⊢ wp frame (wpE (defs₀ (F := F)) 𝒱₀ (c : Thread nD τ) none) Set.univ (bodyG i arg1 harg1 arg5 harg5 arg6 harg6 arg7 harg7) Q := by
  unfold ringAt
  rw [if_neg (Nat.succ_ne_zero _), show 11 * ((i 0).val + 1) = 11 * (i 0).val + 11 from Nat.mul_succ _ _]
  by_cases h1 : k0_cond1 i = 1#1
  · rw [if_pos ((cond1_iff i).1 h1)]
    exact bodyRun1 c XG XU XD i arg1 harg1 arg5 harg5 arg6 harg6 arg7 harg7 h1 fx f5 f6 f7 W Q
  · rw [if_neg fun h => h1 ((cond1_iff i).2 h)]
    exact bodyRun2 c XG XU XD i arg1 harg1 arg5 harg5 arg6 harg6 arg7 harg7 h1 fx f5 f6 f7 W Q

end Body

end Cert.Kernel2Ideal.Hand

end
-- ==== Proof.FfnLaunch.lean ====
/-
  The feed-forward kernel's launch: the arrays and the scratch buffers cut into blocks and slots, the
  pipeline's proof data, and the run of the whole program.
-/
module

public import proofs.«01_k».proof.Proof.FfnRun
public import proofs.«01_k».proof.Proof.Gen.Kernel2Ideal.Frame
public import Idealize.ShloMosaic.Lib.Pipeline.Routed

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-! ## Blocks and slots -/

abbrev colSet (b : Fin 11) : Finset S2048x5632.Idx := (Rect.unit (s := S2048x5632) (colOff b) S2048x512.size (colOff_inb b)).set
abbrev rowSet (b : Fin 11) : Finset S5632x2048.Idx := (Rect.unit (s := S5632x2048) (rowOff b) S512x2048.size (rowOff_inb b)).set
abbrev slotSet (s : Fin 2) : Finset S2x2048x512.Idx := (Rect.unit (s := S2x2048x512) (slotOff s) S1x2048x512.size (slotOff_inb s)).set
abbrev slotSetD (s : Fin 2) : Finset S2x512x2048.Idx := (Rect.unit (s := S2x512x2048) (slotOff s) S1x512x2048.size (slotOffD_inb s)).set

theorem mem_colSet (b : Fin 11) (y : S2048x5632.Idx) : y ∈ colSet b ↔ 512 * b.val ≤ (y 1).val ∧ (y 1).val < 512 * b.val + 512 := by
  rw [Rect.mem_set_unit]
  have h0 : (y 0).val < 2048 := (y 0).isLt
  constructor
  · intro H; exact H 1
  · intro H a; fin_cases a
    · show 0 ≤ (y 0).val ∧ (y 0).val < 0 + 2048; omega
    · exact H
theorem mem_rowSet (b : Fin 11) (y : S5632x2048.Idx) : y ∈ rowSet b ↔ 512 * b.val ≤ (y 0).val ∧ (y 0).val < 512 * b.val + 512 := by
  rw [Rect.mem_set_unit]
  have h0 : (y 1).val < 2048 := (y 1).isLt
  constructor
  · intro H; exact H 0
  · intro H a; fin_cases a
    · exact H
    · show 0 ≤ (y 1).val ∧ (y 1).val < 0 + 2048; omega
theorem mem_slotSet (s : Fin 2) (y : S2x2048x512.Idx) : y ∈ slotSet s ↔ (y 0).val = s.val := by
  rw [Rect.mem_set_unit]
  have h1 : (y 1).val < 2048 := (y 1).isLt
  have h2 : (y 2).val < 512 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 2048; omega
    · show 0 ≤ (y 2).val ∧ (y 2).val < 0 + 512; omega
theorem mem_slotSetD (s : Fin 2) (y : S2x512x2048.Idx) : y ∈ slotSetD s ↔ (y 0).val = s.val := by
  rw [Rect.mem_set_unit]
  have h1 : (y 1).val < 512 := (y 1).isLt
  have h2 : (y 2).val < 2048 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 512; omega
    · show 0 ≤ (y 2).val ∧ (y 2).val < 0 + 2048; omega

theorem colSet_disjoint : ∀ b b' : Fin 11, b ≠ b' → Disjoint (colSet b) (colSet b') := by
  intro b b' hne; rw [Finset.disjoint_left]; intro y hy hy'; rw [mem_colSet] at hy hy'; exact hne (Fin.ext (by omega))
theorem rowSet_disjoint : ∀ b b' : Fin 11, b ≠ b' → Disjoint (rowSet b) (rowSet b') := by
  intro b b' hne; rw [Finset.disjoint_left]; intro y hy hy'; rw [mem_rowSet] at hy hy'; exact hne (Fin.ext (by omega))
theorem slotSet_disjoint : ∀ b b' : Fin 2, b ≠ b' → Disjoint (slotSet b) (slotSet b') := by
  intro b b' hne; rw [Finset.disjoint_left]; intro y hy hy'; rw [mem_slotSet] at hy hy'; exact hne (Fin.ext (by omega))
theorem slotSetD_disjoint : ∀ b b' : Fin 2, b ≠ b' → Disjoint (slotSetD b) (slotSetD b') := by
  intro b b' hne; rw [Finset.disjoint_left]; intro y hy hy'; rw [mem_slotSetD] at hy hy'; exact hne (Fin.ext (by omega))
theorem colSet_cover : (Finset.univ : Finset (Fin 11)).biUnion colSet = Finset.univ := by
  ext y; simp only [Finset.mem_biUnion, Finset.mem_univ, true_and, iff_true]
  have h : (y 1).val < 5632 := (y 1).isLt
  exact ⟨⟨(y 1).val / 512, by omega⟩, by rw [mem_colSet]; dsimp only; omega⟩
theorem rowSet_cover : (Finset.univ : Finset (Fin 11)).biUnion rowSet = Finset.univ := by
  ext y; simp only [Finset.mem_biUnion, Finset.mem_univ, true_and, iff_true]
  have h : (y 0).val < 5632 := (y 0).isLt
  exact ⟨⟨(y 0).val / 512, by omega⟩, by rw [mem_rowSet]; dsimp only; omega⟩
theorem slotSet_cover : (Finset.univ : Finset (Fin 2)).biUnion slotSet = Finset.univ := by
  ext y; simp only [Finset.mem_biUnion, Finset.mem_univ, true_and, iff_true]
  exact ⟨⟨(y 0).val, (y 0).isLt⟩, by rw [mem_slotSet]⟩
theorem slotSetD_cover : (Finset.univ : Finset (Fin 2)).biUnion slotSetD = Finset.univ := by
  ext y; simp only [Finset.mem_biUnion, Finset.mem_univ, true_and, iff_true]
  exact ⟨⟨(y 0).val, (y 0).isLt⟩, by rw [mem_slotSetD]⟩

omit [FloatOps F] in
theorem gB_set (b : Fin 11) : (gB b).view.set = colSet b := View.set_slice_whole _ _
omit [FloatOps F] in
theorem uB_set (b : Fin 11) : (uB b).view.set = colSet b := View.set_slice_whole _ _
omit [FloatOps F] in
theorem dB_set (b : Fin 11) : (dB b).view.set = rowSet b := View.set_slice_whole _ _
omit [FloatOps F] in
theorem gS_set (s : Fin 2) : (gS s).view.set = slotSet s := (View.set_reshape _ _).trans (View.set_slice_whole _ _)
omit [FloatOps F] in
theorem uS_set (s : Fin 2) : (uS s).view.set = slotSet s := (View.set_reshape _ _).trans (View.set_slice_whole _ _)
omit [FloatOps F] in
theorem dS_set (s : Fin 2) : (dS s).view.set = slotSetD s := (View.set_reshape _ _).trans (View.set_slice_whole _ _)

section Cut
variable (c : Dev nD)

theorem bigSep_fin2 (Φ : Fin 2 → SP F) : bigSep Finset.univ Φ = iprop(Φ 0 ∗ Φ 1) :=
  bigSep_univ_eq_bigSepL [(0 : Fin 2), (1 : Fin 2)] (by decide) (by decide) Φ

theorem g_eq (X : Buf (Elt F) ((c : Thread nD τ).loc main_arg1)) :
    (((c : Thread nD τ).loc main_arg1) ↦{fullShare} X : SP F) = bigSep Finset.univ (gHome c X) := by
  rw [Ring.pointsTo_blocks (ℓ := (c : Thread nD τ).loc main_arg1) colSet colSet_disjoint colSet_cover]
  exact bigSep_congr fun b _ => by rw [← gB_set]; rfl
theorem u_eq (X : Buf (Elt F) ((c : Thread nD τ).loc main_arg2)) :
    (((c : Thread nD τ).loc main_arg2) ↦{fullShare} X : SP F) = bigSep Finset.univ (uHome c X) := by
  rw [Ring.pointsTo_blocks (ℓ := (c : Thread nD τ).loc main_arg2) colSet colSet_disjoint colSet_cover]
  exact bigSep_congr fun b _ => by rw [← uB_set]; rfl
theorem d_eq (X : Buf (Elt F) ((c : Thread nD τ).loc main_arg3)) :
    (((c : Thread nD τ).loc main_arg3) ↦{fullShare} X : SP F) = bigSep Finset.univ (dHome c X) := by
  rw [Ring.pointsTo_blocks (ℓ := (c : Thread nD τ).loc main_arg3) rowSet rowSet_disjoint rowSet_cover]
  exact bigSep_congr fun b _ => by rw [← dB_set]; rfl

theorem homes_eq (XG : Buf (Elt F) ((c : Thread nD τ).loc main_arg1)) (XU : Buf (Elt F) ((c : Thread nD τ).loc main_arg2)) (XD : Buf (Elt F) ((c : Thread nD τ).loc main_arg3)) :
    bigSep Finset.univ (home c XG XU XD) = iprop((((c : Thread nD τ).loc main_arg1) ↦{fullShare} XG) ∗ (((c : Thread nD τ).loc main_arg2) ↦{fullShare} XU) ∗ (((c : Thread nD τ).loc main_arg3) ↦{fullShare} XD)) := by
  rw [g_eq, u_eq, d_eq]; unfold home
  exact (bigSep_sep _ _ _).trans (congrArg (fun H : SP F => iprop(_ ∗ H)) (bigSep_sep _ _ _))

theorem gP_eq (s : Fin 2) (f) : gP c s f = (((c : Thread nD τ).loc cc0_scratch0) ↦[slotSet s]{fullShare} f : SP F) :=
  congrArg (fun S => (_ ↦[S]{fullShare} f : SP F)) (gS_set s)
theorem uP_eq (s : Fin 2) (f) : uP c s f = (((c : Thread nD τ).loc cc0_scratch1) ↦[slotSet s]{fullShare} f : SP F) :=
  congrArg (fun S => (_ ↦[S]{fullShare} f : SP F)) (uS_set s)
theorem dP_eq (s : Fin 2) (f) : dP c s f = (((c : Thread nD τ).loc cc0_scratch2) ↦[slotSetD s]{fullShare} f : SP F) :=
  congrArg (fun S => (_ ↦[S]{fullShare} f : SP F)) (dS_set s)

theorem gSplit : iprop(∃ f : Buf (Elt F) ((c : Thread nD τ).loc cc0_scratch0), ((c : Thread nD τ).loc cc0_scratch0) ↦{fullShare} f)
    ⊢ (iprop((∃ f, gP c 0 f) ∗ ∃ f, gP c 1 f) : SP F) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) slotSet slotSet_disjoint slotSet_cover f).trans (bigSep_fin2 _))) $$ H
  icases H2 with ⟨H0, H1⟩
  isplitl [H0]
  · iexists f; iapply (entails_of_eq (gP_eq c 0 f).symm); iexact H0
  · iexists f; iapply (entails_of_eq (gP_eq c 1 f).symm); iexact H1
theorem uSplit : iprop(∃ f : Buf (Elt F) ((c : Thread nD τ).loc cc0_scratch1), ((c : Thread nD τ).loc cc0_scratch1) ↦{fullShare} f)
    ⊢ (iprop((∃ f, uP c 0 f) ∗ ∃ f, uP c 1 f) : SP F) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) slotSet slotSet_disjoint slotSet_cover f).trans (bigSep_fin2 _))) $$ H
  icases H2 with ⟨H0, H1⟩
  isplitl [H0]
  · iexists f; iapply (entails_of_eq (uP_eq c 0 f).symm); iexact H0
  · iexists f; iapply (entails_of_eq (uP_eq c 1 f).symm); iexact H1
theorem dSplit : iprop(∃ f : Buf (Elt F) ((c : Thread nD τ).loc cc0_scratch2), ((c : Thread nD τ).loc cc0_scratch2) ↦{fullShare} f)
    ⊢ (iprop((∃ f, dP c 0 f) ∗ ∃ f, dP c 1 f) : SP F) := by
  iintro ⟨%f, H⟩
  ihave H2 := (entails_of_eq ((Ring.pointsTo_blocks (Ix := Unit) (Name := ℕ) (U := UU nD τ) (Lvl := ℕ) (q := fullShare) (ℓ := (c : Thread nD τ).loc cc0_scratch2) slotSetD slotSetD_disjoint slotSetD_cover f).trans (bigSep_fin2 _))) $$ H
  icases H2 with ⟨H0, H1⟩
  isplitl [H0]
  · iexists f; iapply (entails_of_eq (dP_eq c 0 f).symm); iexact H0
  · iexists f; iapply (entails_of_eq (dP_eq c 1 f).symm); iexact H1
theorem gJoin : iprop((∃ f, gP c 0 f) ∗ ∃ f, gP c 1 f)
    ⊢ (iprop(∃ f : Buf (Elt F) ((c : Thread nD τ).loc cc0_scratch0), ((c : Thread nD τ).loc cc0_scratch0) ↦{fullShare} f) : SP F) := by
  iintro ⟨⟨%f0, H0⟩, ⟨%f1, H1⟩⟩
  iapply (Ring.pointsTo_blocks_join_exists (ℓ := (c : Thread nD τ).loc cc0_scratch0) slotSet slotSet_disjoint slotSet_cover f0)
  irw [bigSep_fin2]
  isplitl [H0]
  · iexists f0; iapply (entails_of_eq (gP_eq c 0 f0)); iexact H0
  · iexists f1; iapply (entails_of_eq (gP_eq c 1 f1)); iexact H1
theorem uJoin : iprop((∃ f, uP c 0 f) ∗ ∃ f, uP c 1 f)
    ⊢ (iprop(∃ f : Buf (Elt F) ((c : Thread nD τ).loc cc0_scratch1), ((c : Thread nD τ).loc cc0_scratch1) ↦{fullShare} f) : SP F) := by
  iintro ⟨⟨%f0, H0⟩, ⟨%f1, H1⟩⟩
  iapply (Ring.pointsTo_blocks_join_exists (ℓ := (c : Thread nD τ).loc cc0_scratch1) slotSet slotSet_disjoint slotSet_cover f0)
  irw [bigSep_fin2]
  isplitl [H0]
  · iexists f0; iapply (entails_of_eq (uP_eq c 0 f0)); iexact H0
  · iexists f1; iapply (entails_of_eq (uP_eq c 1 f1)); iexact H1
theorem dJoin : iprop((∃ f, dP c 0 f) ∗ ∃ f, dP c 1 f)
    ⊢ (iprop(∃ f : Buf (Elt F) ((c : Thread nD τ).loc cc0_scratch2), ((c : Thread nD τ).loc cc0_scratch2) ↦{fullShare} f) : SP F) := by
  iintro ⟨⟨%f0, H0⟩, ⟨%f1, H1⟩⟩
  iapply (Ring.pointsTo_blocks_join_exists (ℓ := (c : Thread nD τ).loc cc0_scratch2) slotSetD slotSetD_disjoint slotSetD_cover f0)
  irw [bigSep_fin2]
  isplitl [H0]
  · iexists f0; iapply (entails_of_eq (dP_eq c 0 f0)); iexact H0
  · iexists f1; iapply (entails_of_eq (dP_eq c 1 f1)); iexact H1

/-! ## The kernel's own semaphores -/

/-- The six cells. -/
def osem : Fin 3 × Fin 2 → SemLoc sig := fun rs => .dma (cell rs.1 rs.2).sem

omit [FloatOps F] in
theorem ownSemFacts : Pipeline.OwnSemFacts spec0 osem := by decide

theorem ownSems0_eq : (Pipeline.ownSems0 (Ix := Unit) (Name := ℕ) (U := UU nD τ) (Lvl := ℕ) (Val := Elt F) (τ := τ) osem c : SP F)
    = iprop(cellP c 0 0 ∗ cellP c 1 0 ∗ cellP c 2 0 ∗ cellP c 0 1 ∗ cellP c 1 1 ∗ cellP c 2 1) := by
  unfold Pipeline.ownSems0
  exact bigSep_univ_eq_bigSepL [((0 : Fin 3), (0 : Fin 2)), (1, 0), (2, 0), (0, 1), (1, 1), (2, 1)] (by decide) (by decide) _

end Cut

/-! ## The pipeline's proof data -/

variable (m : (ℓ : Loc nD τ sig) → Buf (Elt F) ℓ) (ρ : Dev nD → PrngReg)

/-- The block the body leaves at a point. -/
def outAt (c : Dev nD) (t : Fin cfg0.N) : Vec F S1024x2048 .f32 :=
  outVal (V m c main_arg1) (V m c main_arg2) (V m c main_arg3) (iblk m c 0 t : Vec F S1024x2048 .f32) (iblk m c 1 t : Vec F S1x2048 .f32) (iblk m c 2 t : Vec F S1x2048 .f32)

/-- The invariant between points: the ring after that many points, and the generator at some state. -/
def Φ (c : Dev nD) (t : ℕ) : SP F :=
  iprop(ringAt c (V m c main_arg1) (V m c main_arg2) (V m c main_arg3) t ∗ ∃ r, prngReg c r)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Φ m c t.val
  q _ := fullShare
  owed _ := 0

section Data
variable (c : Dev nD) (t : Fin cfg0.N)

theorem after_w0 : (dats m 0 c).after 0 t = iblk m c 0 t := by dsimp only [dats]
theorem after_w1 : (dats m 0 c).after 1 t = iblk m c 1 t := by dsimp only [dats]
theorem after_w2 : (dats m 0 c).after 2 t = iblk m c 2 t := by dsimp only [dats]
theorem after_w3 : (dats m 0 c).after 3 t = outAt m c t := by dsimp only [dats]
theorem before_w0 (d) : (dats m 0 c).before 0 t d = iblk m c 0 t :=
  ((dats m 0 c).before_in_eq_fetched 0 rfl (fun _ => rfl) (fun _ _ _ => rfl) (fun t => by rw [after_w0]; unfold Dat.blockOf iblk; dsimp only [dats]; try rfl) t d).trans
    (by unfold Dat.fetched Dat.blockOf iblk; dsimp only [dats]; try rfl)
theorem before_w1 (d) : (dats m 0 c).before 1 t d = iblk m c 1 t :=
  ((dats m 0 c).before_in_eq_fetched 1 rfl (fun _ => rfl) (fun _ _ _ => rfl) (fun t => by rw [after_w1]; unfold Dat.blockOf iblk; dsimp only [dats]; try rfl) t d).trans
    (by unfold Dat.fetched Dat.blockOf iblk; dsimp only [dats]; try rfl)
theorem before_w2 (d) : (dats m 0 c).before 2 t d = iblk m c 2 t :=
  ((dats m 0 c).before_in_eq_fetched 2 rfl (fun _ => rfl) (fun _ _ _ => rfl) (fun t => by rw [after_w2]; unfold Dat.blockOf iblk; dsimp only [dats]; try rfl) t d).trans
    (by unfold Dat.fetched Dat.blockOf iblk; dsimp only [dats]; try rfl)

theorem coord_eq : (grid0.coords t 0).val = t.val := by
  have h := Pipeline.Grid.coords_val (G := grid0) t 0 (S := 1) (B := 32) (by decide) (by decide)
  have hN : t.val < 32 := t.isLt
  omega

theorem defs_tc : (defs₀ (F := F)) .tc cfg0.body
    = fun a => bodyG (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3)) := rfl
theorem prog_eq : (defs₀ (F := F)) .tc cfg0.body (cfg0.bodyArgs t (cfg0.slots t))
    = bodyG (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) :=
  (congrFun defs_tc _).trans rfl

end Data

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2, after_w3]
  rw [show (dats m 0 c).Φ t.castSucc = Φ m c t.val from rfl, show (dats m 0 c).Φ t.succ = Φ m c (t.val + 1) from rfl]
  unfold Dat.owesAt Pipeline.owesWithin
  rw [show (dats m 0 c).owed t.castSucc = 0 from rfl, show (dats m 0 c).owed t.succ = 0 from rfl]
  unfold owns Φ
  iintro ⟨⟨HR, Hp⟩, ⟨%W, -, HW⟩, ⟨%d0, %g0, %hg0, H0⟩, ⟨%d1, %g1, %hg1, H1⟩, ⟨%d2, %g2, %hg2, H2⟩, ⟨%d3, %gO, -, HO⟩⟩
  sl_rw [prog_eq t]
  have hb := bodyRun c (V m c main_arg1) (V m c main_arg2) (V m c main_arg3) (grid0.coords t) (st0_0 t) (hstage0_0 ((cfg0.slots t 0).cast nbuf0_0)) (st0_1 t) (hstage0_1 ((cfg0.slots t 1).cast nbuf0_1))
        (st0_2 t) (hstage0_2 ((cfg0.slots t 2).cast nbuf0_2)) (st0_3 t) (hstage0_3 ((cfg0.slots t 3).cast nbuf0_3)) g0 g1 g2 gO W
  rw [coord_eq t, hg0, hg1, hg2] at hb
  iapply (hb _)
  isplitl [H0 H1 H2 HO HW HR]
  · isplitl [H0]; · iexact H0
    isplitl [H1]; · iexact H1
    isplitl [H2]; · iexact H2
    isplitl [HO]; · iexact HO
    isplitl [HW]; · iexact HW
    iexact HR
  · iintro ⟨H0, H1, H2, HO, ⟨%W', HW⟩, HR⟩
    isplitl [HR Hp]
    · isplitl [HR]; · iexact HR
      iexact Hp
    isplitl [HW]
    · iexists W'; isplitr; · ipureintro; exact fun _ _ => Or.inl trivial
      iexact HW
    isplitl [H0]
    · iexists _; isplitr; · ipureintro; exact hg0
      iexact H0
    isplitl [H1]
    · iexists _; isplitr; · ipureintro; exact hg1
      iexact H1
    isplitl [H2]
    · iexists _; isplitr; · ipureintro; exact hg2
      iexact H2
    iexists _; isplitr; · ipureintro; exact View.read_rep _ _
    iexact HO

/-! ## The run -/

theorem ends_eq (c : Dev nD) : (Pipeline.Ends (Val := Elt F) (τ := τ) spec0 osem (Pipeline.restRefs sig spec0) c (V m c) : SP F)
    = iprop(((((c : Thread nD τ).loc main_arg1) ↦{fullShare} V m c main_arg1) ∗ (((c : Thread nD τ).loc main_arg2) ↦{fullShare} V m c main_arg2) ∗ (((c : Thread nD τ).loc main_arg3) ↦{fullShare} V m c main_arg3))
      ∗ (cellP c 0 0 ∗ cellP c 1 0 ∗ cellP c 2 0 ∗ cellP c 0 1 ∗ cellP c 1 1 ∗ cellP c 2 1)
      ∗ ((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))
      ∗ ∃ r, prngReg c r) := by
  unfold Pipeline.Ends
  rw [ownSems0_eq, scopedRest0_eq]
  exact congrArg (fun H : SP F => iprop(H ∗ _)) (unscopedRest0_eq c (V m c))

theorem idle_eq (c : Dev nD) : (iprop(ring c (V m c main_arg1) (V m c main_arg2) (V m c main_arg3) 352 ∗ ∃ r, prngReg c r) : SP F)
    = iprop((free c 0 ∗ free c 1 ∗ ((((c : Thread nD τ).loc main_arg1) ↦{fullShare} V m c main_arg1) ∗ (((c : Thread nD τ).loc main_arg2) ↦{fullShare} V m c main_arg2) ∗ (((c : Thread nD τ).loc main_arg3) ↦{fullShare} V m c main_arg3))) ∗ ∃ r, prngReg c r) := by
  unfold ring; rw [if_neg (by omega), homes_eq]; rfl

theorem ends_idle (c : Dev nD) : (Pipeline.Ends (Val := Elt F) (τ := τ) spec0 osem (Pipeline.restRefs sig spec0) c (V m c) : SP F)
    ⊢ iprop(ring c (V m c main_arg1) (V m c main_arg2) (V m c main_arg3) 352 ∗ ∃ r, prngReg c r) := by
  rw [ends_eq, idle_eq]
  unfold free
  iintro ⟨HA, ⟨C0, C1, C2, C3, C4, C5⟩, ⟨B0, B1, B2⟩, Hp⟩
  ihave S0 := (gSplit c) $$ B0
  ihave S1 := (uSplit c) $$ B1
  ihave S2 := (dSplit c) $$ B2
  icases S0 with ⟨G0, G1⟩
  icases S1 with ⟨U0, U1⟩
  icases S2 with ⟨D0, D1⟩
  isplitr [Hp]
  · isplitl [G0 U0 D0 C0 C1 C2]
    · isplitl [G0]; · iexact G0
      isplitl [U0]; · iexact U0
      isplitl [D0]; · iexact D0
      isplitl [C0]; · iexact C0
      isplitl [C1]; · iexact C1
      iexact C2
    isplitl [G1 U1 D1 C3 C4 C5]
    · isplitl [G1]; · iexact G1
      isplitl [U1]; · iexact U1
      isplitl [D1]; · iexact D1
      isplitl [C3]; · iexact C3
      isplitl [C4]; · iexact C4
      iexact C5
    iexact HA
  iexact Hp

theorem idle_ends (c : Dev nD) : (iprop(ring c (V m c main_arg1) (V m c main_arg2) (V m c main_arg3) 352 ∗ ∃ r, prngReg c r) : SP F)
    ⊢ Pipeline.Ends (Val := Elt F) (τ := τ) spec0 osem (Pipeline.restRefs sig spec0) c (V m c) := by
  rw [ends_eq, idle_eq]
  unfold free
  iintro ⟨⟨⟨G0, U0, D0, C0, C1, C2⟩, ⟨G1, U1, D1, C3, C4, C5⟩, HA⟩, Hp⟩
  isplitl [HA]; · iexact HA
  isplitl [C0 C1 C2 C3 C4 C5]
  · isplitl [C0]; · iexact C0
    isplitl [C1]; · iexact C1
    isplitl [C2]; · iexact C2
    isplitl [C3]; · iexact C3
    isplitl [C4]; · iexact C4
    iexact C5
  isplitr [Hp]
  · isplitl [G0 G1]
    · iapply (gJoin c); isplitl [G0]; · iexact G0
      iexact G1
    isplitl [U0 U1]
    · iapply (uJoin c); isplitl [U0]; · iexact U0
      iexact U1
    iapply (dJoin c); isplitl [D0]; · iexact D0
    iexact D1
  iexact Hp

/-- What a run ends in: the staged arrays at the pipeline's contents, the rest as launched, every counter at zero. -/
def Post (r : PUnit × MemSt nD τ sig (Elt F)) : Prop :=
  (∀ c : Dev nD, (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b) = V m c b)
  ∧ r.2.sem = fun _ => 0

set_option backward.isDefEq.respectTransparency.types false in
theorem run : θ_run defs (onTc (τ := τ) (main (F := F))) (s₀ m ρ) (Post m) :=
  Pipeline.θ_run_frame_routed cfgs (dats m) (0 : Fin 1) launch0 ownSemFacts defs₀ 𝒱₀ m ρ main
    (hbody := fun c => (body_obligation m c).loose) (hshare := fun c => (dats m 0 c).share_full fun _ => rfl)
    (howed := fun _ _ => rfl)
    (V := V m) (hmain := Pipeline.hmain_region cfgs 0 defs₀ 𝒱₀ m main fun c => (main_chain c).trans rfl)
    (hA := fun _ _ => rfl) (R := Pipeline.restRefs sig spec0) (hR := Finset.Subset.refl _) (Y := V m)
    (hin := fun c => ends_idle m c)
    (hout := fun c => idle_ends m c)
    (Q' := Post m)
    (hQ' := fun r h => ⟨fun c => ⟨(h.1 c).1, (h.1 c).2.1⟩, h.2⟩)

/-- The arguments as launched. -/
abbrev ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem Post.kept {r : PUnit × MemSt nD τ sig (Elt F)} (h : Post m r) (c : Dev nD) : ArgsKept m r c :=
  ⟨((h.1 c).1 0).trans ((dats m 0 c).arrAt_in 0 rfl _),
    (h.1 c).2 main_arg1 (Pipeline.mem_restRefs_of main_arg1 (by decide) (by decide)),
    (h.1 c).2 main_arg2 (Pipeline.mem_restRefs_of main_arg2 (by decide) (by decide)),
    (h.1 c).2 main_arg3 (Pipeline.mem_restRefs_of main_arg3 (by decide) (by decide)),
    ((h.1 c).1 1).trans ((dats m 0 c).arrAt_in 1 rfl _),
    ((h.1 c).1 2).trans ((dats m 0 c).arrAt_in 2 rfl _)⟩

/-- The frame. -/
theorem frame : θ_run defs (onTc (τ := τ) (main (F := F))) ⟨m, fun _ => 0, ρ⟩ (fun r => (∀ c : Dev nD, ArgsKept m r c) ∧ r.2.sem = fun _ => 0) :=
  (θ_run defs _ _).mono (fun _ h => ⟨Post.kept m h, h.2⟩) (run m ρ)

/-- The result array as the pipeline leaves it. -/
theorem runValue : θ_run defs (onTc (τ := τ) (main (F := F))) ⟨m, fun _ => 0, ρ⟩ (fun r =>
    (∀ c : Dev nD, r.2.mem ((c.tc : Thread nD τ).loc main_v0) = (dats m 0 c).arrAt 3 cfg0.N) ∧ ∀ c : Dev nD, ArgsKept m r c) :=
  (θ_run defs _ _).mono (fun _ h => ⟨fun c => (h.1 c).1 3, Post.kept m h⟩) (run m ρ)

end Cert.Kernel2Ideal.Hand

end
-- ==== Proof.FfnBits.lean ====
/-
  The feed-forward kernel as compiled: it is the same program as the idealized one, so it runs and ends the same way,
  whatever the float values are.
-/
module

public import proofs.«01_k».proof.Proof.FfnLaunch
public import proofs.«01_k».proof.Proof.Gen.Kernel2.Frame

@[expose] public section

set_option maxRecDepth 16384

noncomputable section

namespace Cert.Kernel2.Hand

open Cert.Kernel2 Cert.Kernel2.Gen
open Idealize.ShloMosaic Idealize.ShloMosaic.TcCoe Idealize.SL.Sem

variable {F : FTy → Type} [FloatOps F]

theorem main_eq : Cert.Kernel2.main (F := F) = Cert.Kernel2Ideal.main (F := F) := by sl_kernel_rfl
theorem defs_eq : Cert.Kernel2.defs (F := F) = Cert.Kernel2Ideal.defs (F := F) := by sl_kernel_rfl

/-- A run of the one is a run of the other. -/
theorem run_eq (s : MemSt nD τ sig (Elt F)) (Q : PUnit × MemSt nD τ sig (Elt F) → Prop) :
    θ_run (Cert.Kernel2.defs (F := F)) (onTc (τ := τ) (Cert.Kernel2.main (F := F))) s Q
      = θ_run (Cert.Kernel2Ideal.defs (F := F)) (onTc (τ := Cert.Kernel2Ideal.τ) (Cert.Kernel2Ideal.main (F := F))) s Q := by sl_kernel_rfl

/-- The frame. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (run_eq _ _).mpr (Cert.Kernel2Ideal.Hand.frame (F := F) m ρ)

end Cert.Kernel2.Hand

end
-- ==== Proof.FfnMath.lean ====
/-
  The feed-forward block as mathematics: the blocks of hidden units the kernel adds one after another are the sum
  over all hidden units.
-/
module

public import proofs.«01_k».proof.Proof.OutProj
public import proofs.«01_k».proof.Proof.Gen.Reference2Ideal.Run
public import proofs.«01_k».proof.Proof.FfnLaunch
public import Idealize.ShloMosaic.Lib.Pointwise
public import Idealize.ShloMosaic.Lib.Pipeline.ValueKit

@[expose] public section

set_option maxRecDepth 16384

noncomputable section

namespace Cert.Kernel2Ideal.Hand

open Cert.Kernel2Ideal Cert.Kernel2Ideal.Gen Cert.Layer
open Idealize.ShloMosaic Idealize.ShloMosaic.TcCoe Idealize.SL.Sem

/-- One hidden unit of a row: the gate times its logistic, times the up projection. -/
def hid (x g u : Fin 2048 → EReal) : EReal := (∑ k, x k * g k) * Ideal.logistic (∑ k, x k * g k) * ∑ k, x k * u k

/-- The row before the norm: the scaled residual plus the hidden units times the down projection. -/
def ffnRow (x : Fin 2048 → EReal) (G U : Fin 2048 → Fin 5632 → EReal) (D : Fin 5632 → Fin 2048 → EReal) (l : Fin 2048) : EReal :=
  Ideal.ofBits .f32 0x3F9837F0#32 * x l + ∑ n, hid x (fun k => G k n) (fun k => U k n) * D n l

theorem pay2_apply (x : Vec Ideal S1024x2048 .f32) (g u : Vec Ideal S1x2048x256 .bf16) (r : Fin 1024) (j : Fin 256) :
    k0_pay2 x g u (ix2 r j) = hid (fun k => x (ix2 r k)) (fun k => g (ix3 0 k j)) (fun k => u (ix3 0 k j)) := by
  unfold hid
  unfold_payloads
  pointwise
theorem pay3_apply (x : Vec Ideal S1024x2048 .f32) (g u : Vec Ideal S1x2048x256 .bf16) (o : Vec Ideal S1024x2048 .f32) (d : Vec Ideal S1x256x2048 .bf16)
    (r : Fin 1024) (l : Fin 2048) :
    k0_pay3 x g u o d (ix2 r l) = o (ix2 r l) + ∑ j : Fin 256, hid (fun k => x (ix2 r k)) (fun k => g (ix3 0 k j)) (fun k => u (ix3 0 k j)) * d (ix3 0 j l) := by
  unfold hid
  unfold_payloads
  pointwise
theorem pay5_apply (h : FVec Ideal S1024x256 .bf16) (o : Vec Ideal S1024x2048 .f32) (d : Vec Ideal S1x256x2048 .bf16) (r : Fin 1024) (l : Fin 2048) :
    k0_pay5 h o d (ix2 r l) = o (ix2 r l) + ∑ j : Fin 256, h (ix2 r j) * d (ix3 0 j l) := by
  unfold_payloads
  pointwise
theorem pay6_apply (x : Vec Ideal S1024x2048 .f32) (g h : Vec Ideal S1x2048 .f32) (r : Fin 1024) (j : Fin 2048) :
    k0_pay6 x g h (ix2 r j) = lnRow (fun k => x (ix2 r k)) (fun k => g (ix2 0 k)) (fun k => h (ix2 0 k)) j := by
  unfold lnRow mean
  unfold_payloads
  pointwise
theorem pay4_apply (x : Vec Ideal S1024x2048 .f32) (r : Fin 1024) (j : Fin 2048) :
    k0_pay4 x (ix2 r j) = Ideal.ofBits .f32 0x3F9837F0#32 * x (ix2 r j) := by
  unfold_payloads
  pointwise

section Sum
variable (G U : S2048x5632.Idx → EReal) (D : S5632x2048.Idx → EReal) (x o : Vec Ideal S1024x2048 .f32) (r : Fin 1024) (l : Fin 2048)

/-- What hidden unit `n` adds. -/
def term (n : Fin 5632) : EReal :=
  hid (fun k => x (ix2 r k)) (fun k => G (ix2 k n)) (fun k => U (ix2 k n)) * D (ix2 n l)
/-- The same by number, zero past the last. -/
def termN (n : ℕ) : EReal := if h : n < 5632 then term G U D x r l ⟨n, h⟩ else 0

theorem half_apply (b : Fin 11) (h : Fin 2) (j : Fin 256) :
    hid (fun k => x (ix2 r k)) (fun k => (colHalf (F := Ideal) G b h) (ix3 0 k j)) (fun k => (colHalf (F := Ideal) U b h) (ix3 0 k j)) * (rowHalf (F := Ideal) D b h) (ix3 0 j l)
      = termN G U D x r l (512 * b.val + 256 * h.val + j.val) := by
  unfold termN
  rw [dif_pos (by have := b.isLt; have := h.isLt; have := j.isLt; omega)]
  rfl

theorem stepVal_apply (b : Fin 11) : stepVal (F := Ideal) G U D b x o (ix2 r l)
    = o (ix2 r l) + ∑ j ∈ Finset.range 512, termN G U D x r l (512 * b.val + j) := by
  unfold stepVal
  rw [pay5_apply, pay3_apply]
  simp only [pay2_apply]
  have e : ∑ j ∈ Finset.range 512, termN G U D x r l (512 * b.val + j)
      = ∑ j : Fin 256, termN G U D x r l (512 * b.val + j.val) + ∑ j : Fin 256, termN G U D x r l (512 * b.val + (256 + j.val)) :=
    (Finset.sum_range_add _ 256 256).trans (congrArg₂ _ (Finset.sum_range _) (Finset.sum_range _))
  rw [e, add_assoc]
  refine congrArg (o (ix2 r l) + ·) (congrArg₂ (· + ·) (Finset.sum_congr rfl fun j _ => ?_) (Finset.sum_congr rfl fun j _ => ?_))
  · exact (half_apply G U D x r l b 0 j).trans (congrArg (termN G U D x r l) (by show 512 * b.val + 256 * 0 + j.val = _; omega))
  · exact (half_apply G U D x r l b 1 j).trans (congrArg (termN G U D x r l) (by show 512 * b.val + 256 * 1 + j.val = _; omega))

theorem acc_apply : ∀ k : ℕ, k ≤ 11 → acc (F := Ideal) G U D x o k (ix2 r l) = o (ix2 r l) + ∑ n ∈ Finset.range (512 * k), termN G U D x r l n
  | 0, _ => by simp [acc]
  | k + 1, hk => by
    rw [acc, stepVal_apply, acc_apply k (by omega), Nat.mul_succ, Finset.sum_range_add, add_assoc]
    have hb : (Ring.bk 11 k : Fin 11).val = k := by simp only [Ring.bk, Fin.ofNat]; omega
    rw [hb]

theorem acc_all : acc (F := Ideal) G U D x (k0_pay4 x) 11 (ix2 r l)
    = ffnRow (fun k => x (ix2 r k)) (fun k n => G (ix2 k n)) (fun k n => U (ix2 k n)) (fun n l => D (ix2 n l)) l := by
  rw [acc_apply G U D x _ r l 11 le_rfl, pay4_apply, show 512 * 11 = 5632 from rfl, Finset.sum_range]
  unfold ffnRow
  refine congrArg (_ + ·) (Finset.sum_congr rfl fun n _ => ?_)
  exact dif_pos n.isLt

end Sum

theorem outVal_apply (G U : S2048x5632.Idx → EReal) (D : S5632x2048.Idx → EReal) (x : Vec Ideal S1024x2048 .f32) (g b : Vec Ideal S1x2048 .f32) (r : Fin 1024) (l : Fin 2048) :
    outVal (F := Ideal) G U D x g b (ix2 r l)
      = lnRow (ffnRow (fun k => x (ix2 r k)) (fun k n => G (ix2 k n)) (fun k n => U (ix2 k n)) (fun n l => D (ix2 n l))) (fun k => g (ix2 0 k)) (fun k => b (ix2 0 k)) l := by
  unfold outVal
  rw [pay6_apply]
  simp only [acc_all]

/-- The normed row depends on its operands only through their values. -/
theorem row_congr {x x' : Fin 2048 → EReal} {G U : Fin 2048 → Fin 5632 → EReal} {D : Fin 5632 → Fin 2048 → EReal}
    {g g' h h' : Fin 2048 → EReal} {c c' : Fin 2048} (hx : ∀ k, x k = x' k) (hg : ∀ k, g k = g' k) (hh : ∀ k, h k = h' k) (hc : c = c') :
    lnRow (ffnRow x G U D) g h c = lnRow (ffnRow x' G U D) g' h' c' := by
  rw [funext hx, funext hg, funext hh, hc]

variable (m : (ℓ : Loc nD τ sig) → Buf (Elt Ideal) ℓ) (ρ : Dev nD → PrngReg)

/-- Where the windows of a grid point lie: the row windows at the point's block of rows, the others whole. -/
theorem idx : ∀ t : Fin grid0.N, win0_0.index t = ![t.val, 0] ∧ win0_1.index t = ![0, 0] ∧ win0_2.index t = ![0, 0]
    ∧ win0_3.index t = ![t.val, 0] := by decide +kernel

/-- The whole result array: every row is the layer norm of that row of the arguments. -/
def whole (x : Vec Ideal S32768x2048 .f32) (G U : Vec Ideal S2048x5632 .bf16) (D : Vec Ideal S5632x2048 .bf16)
    (g h : Vec Ideal S1x2048 .f32) : Vec Ideal S32768x2048 .f32 := fun i =>
  lnRow (ffnRow (fun k => x (ix2 (i 0) k)) (fun k n => G (ix2 k n)) (fun k n => U (ix2 k n)) (fun n l => D (ix2 n l)))
    (fun k => g (ix2 0 k)) (fun k => h (ix2 0 k)) (i 1)

theorem final (c : Dev nD) : (dats m 0 c).arrAt 3 cfg0.N =
    whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 3 _ (by decide +kernel) fun t hf y => ?_
  blk_simp
  rw [after_w3]
  idx_vars y
  unfold outAt
  refine (outVal_apply _ _ _ _ _ _ _ _).trans ?_
  refine row_congr (fun k => ?_) (fun k => ?_) (fun k => ?_) ?_
  on_goal 4 => (apply Fin.ext; blk_simp [idx t])
  all_goals blk_ext [iblk, V, idx t]

end Cert.Kernel2Ideal.Hand

namespace Cert.Reference2Ideal.Hand

open Cert.Reference2Ideal Cert.Reference2Ideal.Gen Cert.Layer
open Idealize.ShloMosaic Idealize.ShloMosaic.TcCoe Idealize.SL.Sem

/-- The row before the norm, over whole arrays, as the reference writes it. -/
def hostFfn (x : FVec Ideal S32768x2048 .f32) (G U : FVec Ideal S2048x5632 .bf16) (D : FVec Ideal S5632x2048 .bf16) : FVec Ideal S32768x2048 .f32 :=
  addf (mulf (broadcastInDim S32768x2048 ![] bcast_S_S32768x2048 (constant S_ .f32 0x3F9837F0#32)) x)
    (Host.dotGeneral dot_S32768x5632_S5632x2048_S32768x2048_1_0_0_1_n_n none
      (mulf (mulf (Host.dotGeneral dot_S32768x2048_S2048x5632_S32768x5632_1_0_0_1_n_n none x (extf .f32 G bitsLt_bf16_f32))
          (Host.divf (broadcastInDim S32768x5632 ![] bcast_S_S32768x5632 (constant S_ .f32 0x3F800000#32))
            (addf (broadcastInDim S32768x5632 ![] bcast_S_S32768x5632 (constant S_ .f32 0x3F800000#32))
              (Host.exp (Host.negf (Host.dotGeneral dot_S32768x2048_S2048x5632_S32768x5632_1_0_0_1_n_n none x (extf .f32 G bitsLt_bf16_f32)))))))
        (Host.dotGeneral dot_S32768x2048_S2048x5632_S32768x5632_1_0_0_1_n_n none x (extf .f32 U bitsLt_bf16_f32)))
      (extf .f32 D bitsLt_bf16_f32))

theorem hostFfn_apply (x : FVec Ideal S32768x2048 .f32) (G U : FVec Ideal S2048x5632 .bf16) (D : FVec Ideal S5632x2048 .bf16) (r : Fin 32768) (l : Fin 2048) :
    hostFfn x G U D (ix2 r l) = Cert.Kernel2Ideal.Hand.ffnRow (fun k => x (ix2 r k)) (fun k n => G (ix2 k n)) (fun k n => U (ix2 k n)) (fun n l => D (ix2 n l)) l := by
  unfold Cert.Kernel2Ideal.Hand.ffnRow Cert.Kernel2Ideal.Hand.hid Ideal.logistic
  pointwise [hostFfn]

/-- The reference's result is the same array of normed rows. -/
theorem res_eq (m : (ℓ : Loc nD τ sig) → Buf (Elt Ideal) ℓ) (c : Dev nD) : Value.res_out0 m c =
    Cert.Kernel2Ideal.Hand.whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  have e : Value.res_out0 m c = Cert.Reference3Ideal.Hand.hostNorm (hostFfn (m ((c.tc : Thread nD τ).loc main_arg0)) (m ((c.tc : Thread nD τ).loc main_arg1))
      (m ((c.tc : Thread nD τ).loc main_arg2)) (m ((c.tc : Thread nD τ).loc main_arg3)))
      (m ((c.tc : Thread nD τ).loc main_arg4)) (m ((c.tc : Thread nD τ).loc main_arg5)) := rfl
  rw [e]
  funext i
  obtain ⟨r, l, rfl⟩ : ∃ (r : Fin 32768) (l : Fin 2048), i = ix2 r l := ⟨i 0, i 1, eq_ix2 i⟩
  refine (Cert.Reference3Ideal.Hand.hostNorm_apply _ _ _ r l).trans ?_
  simp only [hostFfn_apply]
  rfl

end Cert.Reference2Ideal.Hand

end
-- ==== Proof.lean ====
/-
  The certificate of the input projection, of the attention, of the output projection with its norm and of the feed-forward part
  with its norm: every claim of `Cert.Claim`, put together from the frames and from what each launch and each reference leaves.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_finite
public import proofs.«01_k».proof.Proof.OutProj
public import proofs.«01_k».proof.Proof.InProjEnd
public import proofs.«01_k».proof.Proof.InProjRef
public import proofs.«01_k».proof.Proof.Attn
public import proofs.«01_k».proof.Proof.FfnBits
public import proofs.«01_k».proof.Proof.FfnMath

@[expose] public section

set_option maxRecDepth 16384

noncomputable section

namespace Cert.Proof

open Idealize.ShloMosaic Idealize.SL.Sem Cert.Kernel

/-- The attention's launch and its reference end with the same six arrays. -/
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => Cert.KernelIdeal.Hand.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => (truncf .bf16 (m ((c.tc : Thread Cert.KernelIdeal.nD Cert.KernelIdeal.τ).loc Cert.KernelIdeal.main_arg4) : FVec Ideal Cert.KernelIdeal.S1024x1024 .f32) Cert.KernelIdeal.Gen.bitsLt_bf16_f32 : FVec Ideal Cert.KernelIdeal.S1024x1024 .bf16),
    fun c => (truncf .bf16 (m ((c.tc : Thread Cert.KernelIdeal.nD Cert.KernelIdeal.τ).loc Cert.KernelIdeal.main_arg5) : FVec Ideal Cert.KernelIdeal.S2048x2048 .f32) Cert.KernelIdeal.Gen.bitsLt_bf16_f32 : FVec Ideal Cert.KernelIdeal.S2048x2048 .bf16),
    fun c => (truncf .bf16 (m ((c.tc : Thread Cert.KernelIdeal.nD Cert.KernelIdeal.τ).loc Cert.KernelIdeal.main_arg6) : FVec Ideal Cert.KernelIdeal.S2048x5632 .f32) Cert.KernelIdeal.Gen.bitsLt_bf16_f32 : FVec Ideal Cert.KernelIdeal.S2048x5632 .bf16),
    fun c => (truncf .bf16 (m ((c.tc : Thread Cert.KernelIdeal.nD Cert.KernelIdeal.τ).loc Cert.KernelIdeal.main_arg7) : FVec Ideal Cert.KernelIdeal.S2048x5632 .f32) Cert.KernelIdeal.Gen.bitsLt_bf16_f32 : FVec Ideal Cert.KernelIdeal.S2048x5632 .bf16),
    fun c => (truncf .bf16 (m ((c.tc : Thread Cert.KernelIdeal.nD Cert.KernelIdeal.τ).loc Cert.KernelIdeal.main_arg8) : FVec Ideal Cert.KernelIdeal.S5632x2048 .f32) Cert.KernelIdeal.Gen.bitsLt_bf16_f32 : FVec Ideal Cert.KernelIdeal.S5632x2048 .bf16), ?_, ?_⟩
  · refine (θ_run Cert.KernelIdeal.defs _ _).mono (fun _ h c => ?_) (Cert.KernelIdeal.Value.run_blocks m ρ)
    obtain ⟨h0, h1, h2, h3, h4, h5, h6⟩ := h c
    obtain ⟨f0, f1, f2⟩ := @Cert.Layer.finite_args Cert.Pre_finite.Gen.facts m hpre c
    exact ⟨h0.trans (Cert.KernelIdeal.Hand.final11 m c f0 f1 f2), h1.trans (Cert.KernelIdeal.Hand.final12 m c),
      h2.trans (Cert.KernelIdeal.Hand.final13 m c), h3.trans (Cert.KernelIdeal.Hand.final14 m c),
      h4.trans (Cert.KernelIdeal.Hand.final15 m c), h5.trans (Cert.KernelIdeal.Hand.final16 m c), h6⟩
  · refine (θ_run Cert.ReferenceIdeal.defs _ _).mono (fun _ h c => ?_) (Cert.ReferenceIdeal.Value.run m' ρ')
    obtain ⟨h0, h1, h2, h3, h4, h5, h6⟩ := h c
    obtain ⟨a0, a1, a2, a3, a4, a5, a6, a7, a8⟩ := hagree c
    refine ⟨h0.trans ((Cert.ReferenceIdeal.Hand.res_eq m' c).trans ?_), h1.trans ?_, h2.trans ?_, h3.trans ?_, h4.trans ?_, h5.trans ?_, h6⟩
    · rw [a0, a1, a2, a3]
    · rw [a4]
    · rw [a5]
    · rw [a6]
    · rw [a7]
    · rw [a8]

/-- The output projection's launch and its reference end with the same array. -/
theorem outProj : Cert.algebraic_Kernel3Ideal_Reference3Ideal (hKernel3Ideal := Cert.Kernel3Ideal.Gen.facts)
    (hReference3Ideal := Cert.Reference3Ideal.Gen.facts) := by
  intro m ρ m' ρ' hpre hagree
  refine ⟨fun c => Cert.Kernel3Ideal.Hand.whole (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6)), ?_, ?_⟩
  · refine (θ_run Cert.Kernel3Ideal.defs _ _).mono (fun _ h c => ?_) (Cert.Kernel3Ideal.Value.run_blocks m ρ)
    exact ⟨(h c).1.trans (Cert.Kernel3Ideal.Hand.final m c), (h c).2⟩
  · refine (θ_run Cert.Reference3Ideal.defs _ _).mono (fun _ h c => ?_) (Cert.Reference3Ideal.Value.run m' ρ')
    obtain ⟨a0, a1, a2, a3, a4, a5, a6⟩ := hagree c
    refine ⟨(h c).1.trans ((Cert.Reference3Ideal.Hand.res_eq m' c).trans ?_), (h c).2⟩
    rw [a0, a1, a2, a3, a4, a5, a6]

/-- The reference leaves its arguments as they were, and it has no semaphore. -/
theorem referenceEnds : Cert.quiescent_ReferenceIdeal (hReferenceIdeal := Cert.ReferenceIdeal.Gen.facts) := fun m ρ _ =>
  (θ_run (Cert.ReferenceIdeal.defs (F := Ideal)) _ _).mono (fun r h => And.intro (fun c => (h c).2.2.2.2.2.2)
    (Idealize.ShloMosaic.sem_eq_zero_of_no_sems (by decide) r.2)) (Cert.ReferenceIdeal.Value.run m ρ)

/-- The reference leaves its arguments as they were, and it has no semaphore. -/
theorem reference3Ends : Cert.quiescent_Reference3Ideal (hReference3Ideal := Cert.Reference3Ideal.Gen.facts) := fun m ρ _ =>
  (θ_run (Cert.Reference3Ideal.defs (F := Ideal)) _ _).mono (fun r h => And.intro (fun c => (h c).2)
    (Idealize.ShloMosaic.sem_eq_zero_of_no_sems (by decide) r.2)) (Cert.Reference3Ideal.Value.run m ρ)

/-- The feed-forward part's launch and its reference end with the same array. -/
theorem feedForward : Cert.algebraic_Kernel2Ideal_Reference2Ideal (hKernel2Ideal := Cert.Kernel2Ideal.Gen.facts)
    (hReference2Ideal := Cert.Reference2Ideal.Gen.facts) := by
  intro m ρ m' ρ' hpre hagree
  refine ⟨fun c => Cert.Kernel2Ideal.Hand.whole (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)), ?_, ?_⟩
  · refine (θ_run Cert.Kernel2Ideal.defs _ _).mono (fun _ h c => ?_) (Cert.Kernel2Ideal.Hand.runValue m ρ)
    exact ⟨((h.1 c).trans (Cert.Kernel2Ideal.Hand.final m c)), h.2 c⟩
  · refine (θ_run Cert.Reference2Ideal.defs _ _).mono (fun _ h c => ?_) (Cert.Reference2Ideal.Value.run m' ρ')
    obtain ⟨a0, a1, a2, a3, a4, a5⟩ := hagree c
    refine ⟨(h c).1.trans ((Cert.Reference2Ideal.Hand.res_eq m' c).trans ?_), (h c).2⟩
    rw [a0, a1, a2, a3, a4, a5]

/-- The reference leaves its arguments as they were, and it has no semaphore. -/
theorem reference2Ends : Cert.quiescent_Reference2Ideal (hReference2Ideal := Cert.Reference2Ideal.Gen.facts) := fun m ρ _ =>
  (θ_run (Cert.Reference2Ideal.defs (F := Ideal)) _ _).mono (fun r h => And.intro (fun c => (h c).2)
    (Idealize.ShloMosaic.sem_eq_zero_of_no_sems (by decide) r.2)) (Cert.Reference2Ideal.Value.run m ρ)

/-- The input projection's launch and its reference end with the same four arrays. -/
theorem inProj : Cert.algebraic_Kernel4Ideal_Reference4Ideal (hKernel4Ideal := Cert.Kernel4Ideal.Gen.facts)
    (hReference4Ideal := Cert.Reference4Ideal.Gen.facts) := by
  intro m ρ m' ρ' hpre hagree
  refine ⟨fun c => Cert.Kernel4Ideal.Hand.qAll (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)),
    fun c => Cert.Kernel4Ideal.Hand.kAll (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)),
    fun c => Cert.Kernel4Ideal.Hand.vAll (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)),
    fun c => Cert.Kernel4Ideal.Hand.uAll (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)), ?_, ?_⟩
  · refine (θ_run Cert.Kernel4Ideal.defs _ _).mono (fun _ h c => ?_) (Cert.Kernel4Ideal.Value.run_blocks m ρ)
    obtain ⟨h0, h1, h2, h3, h4⟩ := h c
    exact ⟨h0.trans (Cert.Kernel4Ideal.Hand.final_q m c), h1.trans (Cert.Kernel4Ideal.Hand.final_k m c), h2.trans (Cert.Kernel4Ideal.Hand.final_v m c),
      h3.trans (Cert.Kernel4Ideal.Hand.final_u m c), h4⟩
  · refine (θ_run Cert.Reference4Ideal.defs _ _).mono (fun _ h c => ?_) (Cert.Reference4Ideal.Value.run m' ρ')
    obtain ⟨h0, h1, h2, h3, h4⟩ := h c
    obtain ⟨a0, a1, a2, a3⟩ := hagree c
    refine ⟨h0.trans ((Cert.Reference4Ideal.Hand.res_q m' c).trans ?_), h1.trans ((Cert.Reference4Ideal.Hand.res_k m' c).trans ?_),
      h2.trans ((Cert.Reference4Ideal.Hand.res_v m' c).trans ?_), h3.trans ((Cert.Reference4Ideal.Hand.res_u m' c).trans ?_), h4⟩
    · rw [a0, a1, a2, a3]
    · rw [a0, a1, a2, a3]
    · rw [a0, a2, a3]
    · rw [a0, a2, a3]

/-- The reference leaves its arguments as they were, and it has no semaphore. -/
theorem reference4Ends : Cert.quiescent_Reference4Ideal (hReference4Ideal := Cert.Reference4Ideal.Gen.facts) := fun m ρ _ =>
  (θ_run (Cert.Reference4Ideal.defs (F := Ideal)) _ _).mono (fun r h => And.intro (fun c => (h c).2.2.2.2)
    (Idealize.ShloMosaic.sem_eq_zero_of_no_sems (by decide) r.2)) (Cert.Reference4Ideal.Value.run m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    fun m ρ _ => referenceEnds m ρ trivial, fun m ρ _ => referenceEnds m ρ trivial,
    fun m ρ _ => Cert.Kernel2.Hand.frame m ρ, fun m ρ _ => Cert.Kernel2Ideal.Hand.frame m ρ,
    fun m ρ _ => reference2Ends m ρ trivial,
    fun m ρ _ => Cert.Kernel3.Gen.frame m ρ, fun m ρ _ => Cert.Kernel3Ideal.Gen.frame m ρ,
    fun m ρ _ => reference3Ends m ρ trivial,
    fun m ρ _ => Cert.Kernel4.Gen.frame m ρ, fun m ρ _ => Cert.Kernel4Ideal.Gen.frame m ρ,
    fun m ρ _ => reference4Ends m ρ trivial, trivial, attention, trivial, feedForward, trivial, outProj, trivial, inProj⟩

end Cert.Proof

end
